-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_KernelIdeal [hPre_finite_KernelIdeal : Cert.Pre_finite_KernelIdeal.Facts] (m : (ℓ : Loc Cert.KernelIdeal.nD Cert.KernelIdeal.τ Cert.KernelIdeal.sig) → Buf (Elt Ideal) ℓ) : Prop :=
  ∀ c : Dev Cert.KernelIdeal.nD,
    (Cert.Pre_finite_KernelIdeal.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))).1 = (fun _ => 1#1)
    ∧ (Cert.Pre_finite_KernelIdeal.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))).2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_ReferenceIdeal [hPre_finite_ReferenceIdeal : Cert.Pre_finite_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))).1 = (fun _ => 1#1)
    ∧ (Cert.Pre_finite_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))).2 = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_KernelIdeal_pre_finite_KernelIdeal [hKernelIdeal : Cert.KernelIdeal.Facts] [hPre_finite_KernelIdeal : Cert.Pre_finite_KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ReferenceIdeal_pre_finite_ReferenceIdeal [hReferenceIdeal : Cert.ReferenceIdeal.Facts] [hPre_finite_ReferenceIdeal : Cert.Pre_finite_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  True

def algebraic_KernelIdeal_ReferenceIdeal_pre_finite_KernelIdeal [hKernelIdeal : Cert.KernelIdeal.Facts] [hReferenceIdeal : Cert.ReferenceIdeal.Facts] [hPre_finite_KernelIdeal : Cert.Pre_finite_KernelIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_KernelIdeal m →
    (∀ c : Dev Cert.KernelIdeal.nD,
      m ((c.tc : Thread Cert.KernelIdeal.nD Cert.KernelIdeal.τ).loc Cert.KernelIdeal.main_arg0) = m' (((0 : Dev Cert.ReferenceIdeal.nD).tc : Thread Cert.ReferenceIdeal.nD Cert.ReferenceIdeal.τ).loc Cert.ReferenceIdeal.main_arg0)
      ∧ m ((c.tc : Thread Cert.KernelIdeal.nD Cert.KernelIdeal.τ).loc Cert.KernelIdeal.main_arg1) = Layout.blockN ⟨2, ![512, 4096]⟩ ⟨2, ![512, 8192]⟩ (Layout.meshBlock [2, 2, 2] ![[], [0]] c) (m' (((0 : Dev Cert.ReferenceIdeal.nD).tc : Thread Cert.ReferenceIdeal.nD Cert.ReferenceIdeal.τ).loc Cert.ReferenceIdeal.main_arg1))) →
    ∃ (v0 : Buf (Elt Ideal) (((0 : Dev Cert.ReferenceIdeal.nD).tc : Thread Cert.ReferenceIdeal.nD Cert.ReferenceIdeal.τ).loc Cert.ReferenceIdeal.main_v9)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v9) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_KernelIdeal : Cert.Pre_finite_KernelIdeal.Facts) (hPre_finite_ReferenceIdeal : Cert.Pre_finite_ReferenceIdeal.Facts),
    quiescent_Kernel (hKernel := hKernel)
    ∧ quiescent_KernelIdeal (hKernelIdeal := hKernelIdeal)
    ∧ quiescent_KernelIdeal_pre_finite_KernelIdeal (hKernelIdeal := hKernelIdeal) (hPre_finite_KernelIdeal := hPre_finite_KernelIdeal)
    ∧ quiescent_ReferenceIdeal (hReferenceIdeal := hReferenceIdeal)
    ∧ quiescent_ReferenceIdeal_pre_finite_ReferenceIdeal (hReferenceIdeal := hReferenceIdeal) (hPre_finite_ReferenceIdeal := hPre_finite_ReferenceIdeal)
    ∧ preserves_Kernel_KernelIdeal
    ∧ algebraic_KernelIdeal_ReferenceIdeal_pre_finite_KernelIdeal (hKernelIdeal := hKernelIdeal) (hReferenceIdeal := hReferenceIdeal) (hPre_finite_KernelIdeal := hPre_finite_KernelIdeal)
-- ==== Pre_finite_KernelIdeal.lean ====
abbrev S256x512 : Shape := ⟨2, ![256, 512]⟩
abbrev S512x4096 : Shape := ⟨2, ![512, 4096]⟩
abbrev S_ : Shape := ⟨0, ![]⟩

class Facts : Prop where
  bcast_S_S256x512 : S_.BroadcastsInDim S256x512 (![] : Fin 0 → Fin S256x512.rank)
  bcast_S_S512x4096 : S_.BroadcastsInDim S512x4096 (![] : Fin 0 → Fin S512x4096.rank)

variable [Facts]

def fn {F : FTy → Type} [FloatOps F] (main_arg0 : FVec F S256x512 .f32) (main_arg1 : FVec F S512x4096 .f32) : IVec S256x512 1 × IVec S512x4096 1 :=
  let main_v0 : FVec F S256x512 .f32 := Host.absf main_arg0
  let main_cst : FVec F S_ .f32 := constant S_ .f32 0x7F800000#32
  let main_v1 : FVec F S256x512 .f32 := broadcastInDim S256x512 ![] bcast_S_S256x512 main_cst
  let main_v2 : IVec S256x512 1 := cmpf .olt main_v0 main_v1
  let main_v3 : FVec F S512x4096 .f32 := Host.absf main_arg1
  let main_cst_0 : FVec F S_ .f32 := constant S_ .f32 0x7F800000#32
  let main_v4 : FVec F S512x4096 .f32 := broadcastInDim S512x4096 ![] bcast_S_S512x4096 main_cst_0
  let main_v5 : IVec S512x4096 1 := cmpf .olt main_v3 main_v4
  (main_v2, main_v5)
-- ==== Pre_finite_ReferenceIdeal.lean ====
abbrev S256x512 : Shape := ⟨2, ![256, 512]⟩
abbrev S512x8192 : Shape := ⟨2, ![512, 8192]⟩
abbrev S_ : Shape := ⟨0, ![]⟩

class Facts : Prop where
  bcast_S_S256x512 : S_.BroadcastsInDim S256x512 (![] : Fin 0 → Fin S256x512.rank)
  bcast_S_S512x8192 : S_.BroadcastsInDim S512x8192 (![] : Fin 0 → Fin S512x8192.rank)

variable [Facts]

def fn {F : FTy → Type} [FloatOps F] (main_arg0 : FVec F S256x512 .f32) (main_arg1 : FVec F S512x8192 .f32) : IVec S256x512 1 × IVec S512x8192 1 :=
  let main_v0 : FVec F S256x512 .f32 := Host.absf main_arg0
  let main_cst : FVec F S_ .f32 := constant S_ .f32 0x7F800000#32
  let main_v1 : FVec F S256x512 .f32 := broadcastInDim S256x512 ![] bcast_S_S256x512 main_cst
  let main_v2 : IVec S256x512 1 := cmpf .olt main_v0 main_v1
  let main_v3 : FVec F S512x8192 .f32 := Host.absf main_arg1
  let main_cst_0 : FVec F S_ .f32 := constant S_ .f32 0x7F800000#32
  let main_v4 : FVec F S512x8192 .f32 := broadcastInDim S512x8192 ![] bcast_S_S512x8192 main_cst_0
  let main_v5 : IVec S512x8192 1 := cmpf .olt main_v3 main_v4
  (main_v2, main_v5)
-- ==== Kernel.lean ====
abbrev S256x512 : Shape := ⟨2, ![256, 512]⟩
abbrev S512x4096 : Shape := ⟨2, ![512, 4096]⟩
abbrev S256x8192 : Shape := ⟨2, ![256, 8192]⟩
abbrev S4x8x256x128 : Shape := ⟨4, ![4, 8, 256, 128]⟩
abbrev S8 : Shape := ⟨1, ![8]⟩
abbrev S4 : Shape := ⟨1, ![4]⟩
abbrev S10 : Shape := ⟨1, ![10]⟩
abbrev S4x8 : Shape := ⟨2, ![4, 8]⟩
abbrev S_ : Shape := ⟨0, ![]⟩
abbrev S512x128 : Shape := ⟨2, ![512, 128]⟩
abbrev S256x128 : Shape := ⟨2, ![256, 128]⟩
abbrev S1x1x256x128 : Shape := ⟨4, ![1, 1, 256, 128]⟩
abbrev S1 : Shape := ⟨1, ![1]⟩
abbrev S1x1 : Shape := ⟨2, ![1, 1]⟩
abbrev S256x1 : Shape := ⟨2, ![256, 1]⟩
abbrev S256 : Shape := ⟨1, ![256]⟩

abbrev nBuf : Space → Nat
  | .hbm => 3
  | .vmem => 5
  | .smem => 0
  | _ => 0

abbrev bufTy : (tb : Table) → Fin (tcTables nBuf tb) → BufTy
  | .hbm, ⟨0, _⟩ => ⟨S256x512, .f32⟩
  | .hbm, ⟨1, _⟩ => ⟨S512x4096, .f32⟩
  | .hbm, ⟨2, _⟩ => ⟨S256x8192, .f32⟩
  | .local _ .vmem, ⟨0, _⟩ => ⟨S256x512, .f32⟩
  | .local _ .vmem, ⟨1, _⟩ => ⟨S512x4096, .f32⟩
  | .local _ .vmem, ⟨2, _⟩ => ⟨S256x8192, .f32⟩
  | .local _ .vmem, ⟨3, _⟩ => ⟨S4x8x256x128, .f32⟩
  | .local _ .vmem, ⟨4, _⟩ => ⟨S4x8x256x128, .f32⟩
  | _, _ => ⟨S256x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 1 → Bool
  | ⟨0, _⟩ => false
  | _ => false

abbrev dmaSemScoped : Fin 67 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | ⟨60, _⟩ => true
  | ⟨61, _⟩ => true
  | ⟨62, _⟩ => true
  | ⟨63, _⟩ => true
  | ⟨64, _⟩ => true
  | ⟨65, _⟩ => true
  | ⟨66, _⟩ => true
  | _ => false

abbrev sig : RefSig :=
  (ofTc nBuf bufTy 1 67 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_v1 : Ref sig .tc := ⟨.hbm, 2, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_scratch0 : Ref sig .tc := ⟨.vmem, 3, rfl⟩
abbrev cc0_scratch1 : Ref sig .tc := ⟨.vmem, 4, rfl⟩
abbrev cc0_sem0_0 : DmaSem sig := 0
abbrev cc0_sem1_0 : DmaSem sig := 1
abbrev cc0_sem2_0 : DmaSem sig := 2
abbrev barrier0 : Sem sig := 0

abbrev nD : Nat := 8
abbrev τ : Topo := Topo.v7x

variable {F : FTy → Type} [FloatOps F]

abbrev grid0 : Pipeline.Grid := .none

def k0_dev1 (d0 : Dev nD) : Nat :=
  let c0_i32 : BitVec 32 := 0#32
  let c1_i32_3 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v9 : BitVec 32 := Scalar.subi c1_i32_3 v2
  let c4_i32_15 : BitVec 32 := 4#32
  let v25 : BitVec 32 := Scalar.muli v9 c4_i32_15
  let v26 : BitVec 32 := Scalar.addi c0_i32 v25
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_16 : BitVec 32 := 2#32
  let v27 : BitVec 32 := Scalar.muli v5 c2_i32_16
  let v28 : BitVec 32 := Scalar.addi v26 v27
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_17 : BitVec 32 := 1#32
  let v29 : BitVec 32 := Scalar.muli v8 c1_i32_17
  let v30 : BitVec 32 := Scalar.addi v28 v29
  v30.toNat
def k0_dev2 (d0 : Dev nD) : Nat :=
  let c0_i32_20 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_19 : BitVec 32 := 4#32
  let v31 : BitVec 32 := Scalar.muli v2 c4_i32_19
  let v32 : BitVec 32 := Scalar.addi c0_i32_20 v31
  let c1_i32_4 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v10 : BitVec 32 := Scalar.subi c1_i32_4 v5
  let c2_i32_21 : BitVec 32 := 2#32
  let v33 : BitVec 32 := Scalar.muli v10 c2_i32_21
  let v34 : BitVec 32 := Scalar.addi v32 v33
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_22 : BitVec 32 := 1#32
  let v35 : BitVec 32 := Scalar.muli v8 c1_i32_22
  let v36 : BitVec 32 := Scalar.addi v34 v35
  v36.toNat
def k0_dev3 (d0 : Dev nD) : Nat :=
  let c0_i32_25 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_24 : BitVec 32 := 4#32
  let v37 : BitVec 32 := Scalar.muli v2 c4_i32_24
  let v38 : BitVec 32 := Scalar.addi c0_i32_25 v37
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_26 : BitVec 32 := 2#32
  let v39 : BitVec 32 := Scalar.muli v5 c2_i32_26
  let v40 : BitVec 32 := Scalar.addi v38 v39
  let c1_i32_5 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v11 : BitVec 32 := Scalar.subi c1_i32_5 v8
  let c1_i32_27 : BitVec 32 := 1#32
  let v41 : BitVec 32 := Scalar.muli v11 c1_i32_27
  let v42 : BitVec 32 := Scalar.addi v40 v41
  v42.toNat
def k0_off1 (d0 : Dev nD) (c0_i32_29 : BitVec 32) (c0_i32_31 : BitVec 32) : Fin 2 → Nat :=
  let c0_32 : Index := 0#32
  let c2_i32_6 : BitVec 32 := 2#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v12 : BitVec 32 := Scalar.muli c2_i32_6 v5
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v13 : BitVec 32 := Scalar.addi v12 v8
  let v45 : BitVec 32 := Scalar.addi v13 c0_i32_29
  let c4_i32_30 : BitVec 32 := 4#32
  let v46 : BitVec 32 := Scalar.remsi v45 c4_i32_30
  let c1024_i32 : BitVec 32 := 1024#32
  let v47 : BitVec 32 := Scalar.muli v46 c1024_i32
  let v48 : BitVec 32 := Scalar.addi v47 c0_i32_31
  let v49 : Index := Scalar.indexCast v48
  ![0, v49.toNat]
def k0_off2 (d0 : Dev nD) (c0_i32_29 : BitVec 32) : Fin 4 → Nat :=
  let c2_i32_6 : BitVec 32 := 2#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v12 : BitVec 32 := Scalar.muli c2_i32_6 v5
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v13 : BitVec 32 := Scalar.addi v12 v8
  let v45 : BitVec 32 := Scalar.addi v13 c0_i32_29
  let c4_i32_30 : BitVec 32 := 4#32
  let v46 : BitVec 32 := Scalar.remsi v45 c4_i32_30
  let v53 : Index := Scalar.indexCast v46
  let c0_33 : Index := 0#32
  let c0_34 : Index := 0#32
  let c0_35 : Index := 0#32
  ![v53.toNat, 0, 0, 0]
def k0_off3 (d0 : Dev nD) : Fin 2 → Nat :=
  let c2_i32_6 : BitVec 32 := 2#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v12 : BitVec 32 := Scalar.muli c2_i32_6 v5
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v13 : BitVec 32 := Scalar.addi v12 v8
  let c0_i32_29 : BitVec 32 := 0#32
  let v45 : BitVec 32 := Scalar.addi v13 c0_i32_29
  let c4_i32_30 : BitVec 32 := 4#32
  let v46 : BitVec 32 := Scalar.remsi v45 c4_i32_30
  let c0_i32_38 : BitVec 32 := 0#32
  ![v46.toNat, 0]
def k0_off4 (d0 : Dev nD) : Fin 4 → Nat :=
  let c2_i32_6 : BitVec 32 := 2#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v12 : BitVec 32 := Scalar.muli c2_i32_6 v5
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v13 : BitVec 32 := Scalar.addi v12 v8
  let c0_i32_29 : BitVec 32 := 0#32
  let v45 : BitVec 32 := Scalar.addi v13 c0_i32_29
  let c4_i32_30 : BitVec 32 := 4#32
  let v46 : BitVec 32 := Scalar.remsi v45 c4_i32_30
  let c0_i32_37 : BitVec 32 := 0#32
  let c0_i32_44 : BitVec 32 := 0#32
  let c0_i32_45 : BitVec 32 := 0#32
  ![v46.toNat, 0, 0, 0]
def k0_dev4 (d0 : Dev nD) : Nat :=
  let c0_i32_41 : BitVec 32 := 0#32
  let c1_i32_3 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v9 : BitVec 32 := Scalar.subi c1_i32_3 v2
  let c4_i32_40 : BitVec 32 := 4#32
  let v57 : BitVec 32 := Scalar.muli v9 c4_i32_40
  let v58 : BitVec 32 := Scalar.addi c0_i32_41 v57
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_42 : BitVec 32 := 2#32
  let v59 : BitVec 32 := Scalar.muli v5 c2_i32_42
  let v60 : BitVec 32 := Scalar.addi v58 v59
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_43 : BitVec 32 := 1#32
  let v61 : BitVec 32 := Scalar.muli v8 c1_i32_43
  let v62 : BitVec 32 := Scalar.addi v60 v61
  v62.toNat
def k0_off5 (d0 : Dev nD) (c0_i32_29 : BitVec 32) : Fin 4 → Nat :=
  let c2_i32_6 : BitVec 32 := 2#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v12 : BitVec 32 := Scalar.muli c2_i32_6 v5
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v13 : BitVec 32 := Scalar.addi v12 v8
  let v45 : BitVec 32 := Scalar.addi v13 c0_i32_29
  let c4_i32_30 : BitVec 32 := 4#32
  let v46 : BitVec 32 := Scalar.remsi v45 c4_i32_30
  let v77 : Index := Scalar.indexCast v46
  let c1 : Index := 1#32
  let c0_51 : Index := 0#32
  let c0_52 : Index := 0#32
  ![v77.toNat, 1, 0, 0]
def k0_off6 (d0 : Dev nD) : Fin 2 → Nat :=
  let c2_i32_6 : BitVec 32 := 2#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v12 : BitVec 32 := Scalar.muli c2_i32_6 v5
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v13 : BitVec 32 := Scalar.addi v12 v8
  let c0_i32_29 : BitVec 32 := 0#32
  let v45 : BitVec 32 := Scalar.addi v13 c0_i32_29
  let c4_i32_30 : BitVec 32 := 4#32
  let v46 : BitVec 32 := Scalar.remsi v45 c4_i32_30
  let c1_i32_55 : BitVec 32 := 1#32
  ![v46.toNat, 1]
def k0_off7 (d0 : Dev nD) : Fin 4 → Nat :=
  let c2_i32_6 : BitVec 32 := 2#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v12 : BitVec 32 := Scalar.muli c2_i32_6 v5
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v13 : BitVec 32 := Scalar.addi v12 v8
  let c0_i32_29 : BitVec 32 := 0#32
  let v45 : BitVec 32 := Scalar.addi v13 c0_i32_29
  let c4_i32_30 : BitVec 32 := 4#32
  let v46 : BitVec 32 := Scalar.remsi v45 c4_i32_30
  let c1_i32_54 : BitVec 32 := 1#32
  let c0_i32_61 : BitVec 32 := 0#32
  let c0_i32_62 : BitVec 32 := 0#32
  ![v46.toNat, 1, 0, 0]
def k0_dev5 (d0 : Dev nD) : Nat :=
  let c0_i32_58 : BitVec 32 := 0#32
  let c1_i32_3 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v9 : BitVec 32 := Scalar.subi c1_i32_3 v2
  let c4_i32_57 : BitVec 32 := 4#32
  let v81 : BitVec 32 := Scalar.muli v9 c4_i32_57
  let v82 : BitVec 32 := Scalar.addi c0_i32_58 v81
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_59 : BitVec 32 := 2#32
  let v83 : BitVec 32 := Scalar.muli v5 c2_i32_59
  let v84 : BitVec 32 := Scalar.addi v82 v83
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_60 : BitVec 32 := 1#32
  let v85 : BitVec 32 := Scalar.muli v8 c1_i32_60
  let v86 : BitVec 32 := Scalar.addi v84 v85
  v86.toNat
def k0_off8 (d0 : Dev nD) (c0_i32_29 : BitVec 32) : Fin 4 → Nat :=
  let c2_i32_6 : BitVec 32 := 2#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v12 : BitVec 32 := Scalar.muli c2_i32_6 v5
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v13 : BitVec 32 := Scalar.addi v12 v8
  let v45 : BitVec 32 := Scalar.addi v13 c0_i32_29
  let c4_i32_30 : BitVec 32 := 4#32
  let v46 : BitVec 32 := Scalar.remsi v45 c4_i32_30
  let v101 : Index := Scalar.indexCast v46
  let c2 : Index := 2#32
  let c0_68 : Index := 0#32
  let c0_69 : Index := 0#32
  ![v101.toNat, 2, 0, 0]
def k0_off9 (d0 : Dev nD) : Fin 2 → Nat :=
  let c2_i32_6 : BitVec 32 := 2#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v12 : BitVec 32 := Scalar.muli c2_i32_6 v5
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v13 : BitVec 32 := Scalar.addi v12 v8
  let c0_i32_29 : BitVec 32 := 0#32
  let v45 : BitVec 32 := Scalar.addi v13 c0_i32_29
  let c4_i32_30 : BitVec 32 := 4#32
  let v46 : BitVec 32 := Scalar.remsi v45 c4_i32_30
  let c2_i32_72 : BitVec 32 := 2#32
  ![v46.toNat, 2]
def k0_off10 (d0 : Dev nD) : Fin 4 → Nat :=
  let c2_i32_6 : BitVec 32 := 2#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v12 : BitVec 32 := Scalar.muli c2_i32_6 v5
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v13 : BitVec 32 := Scalar.addi v12 v8
  let c0_i32_29 : BitVec 32 := 0#32
  let v45 : BitVec 32 := Scalar.addi v13 c0_i32_29
  let c4_i32_30 : BitVec 32 := 4#32
  let v46 : BitVec 32 := Scalar.remsi v45 c4_i32_30
  let c2_i32_71 : BitVec 32 := 2#32
  let c0_i32_78 : BitVec 32 := 0#32
  let c0_i32_79 : BitVec 32 := 0#32
  ![v46.toNat, 2, 0, 0]
def k0_dev6 (d0 : Dev nD) : Nat :=
  let c0_i32_75 : BitVec 32 := 0#32
  let c1_i32_3 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v9 : BitVec 32 := Scalar.subi c1_i32_3 v2
  let c4_i32_74 : BitVec 32 := 4#32
  let v105 : BitVec 32 := Scalar.muli v9 c4_i32_74
  let v106 : BitVec 32 := Scalar.addi c0_i32_75 v105
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_76 : BitVec 32 := 2#32
  let v107 : BitVec 32 := Scalar.muli v5 c2_i32_76
  let v108 : BitVec 32 := Scalar.addi v106 v107
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_77 : BitVec 32 := 1#32
  let v109 : BitVec 32 := Scalar.muli v8 c1_i32_77
  let v110 : BitVec 32 := Scalar.addi v108 v109
  v110.toNat
def k0_off11 (d0 : Dev nD) (c0_i32_29 : BitVec 32) : Fin 4 → Nat :=
  let c2_i32_6 : BitVec 32 := 2#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v12 : BitVec 32 := Scalar.muli c2_i32_6 v5
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v13 : BitVec 32 := Scalar.addi v12 v8
  let v45 : BitVec 32 := Scalar.addi v13 c0_i32_29
  let c4_i32_30 : BitVec 32 := 4#32
  let v46 : BitVec 32 := Scalar.remsi v45 c4_i32_30
  let v125 : Index := Scalar.indexCast v46
  let c3 : Index := 3#32
  let c0_85 : Index := 0#32
  let c0_86 : Index := 0#32
  ![v125.toNat, 3, 0, 0]
def k0_off12 (d0 : Dev nD) : Fin 2 → Nat :=
  let c2_i32_6 : BitVec 32 := 2#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v12 : BitVec 32 := Scalar.muli c2_i32_6 v5
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v13 : BitVec 32 := Scalar.addi v12 v8
  let c0_i32_29 : BitVec 32 := 0#32
  let v45 : BitVec 32 := Scalar.addi v13 c0_i32_29
  let c4_i32_30 : BitVec 32 := 4#32
  let v46 : BitVec 32 := Scalar.remsi v45 c4_i32_30
  let c3_i32_89 : BitVec 32 := 3#32
  ![v46.toNat, 3]
def k0_off13 (d0 : Dev nD) : Fin 4 → Nat :=
  let c2_i32_6 : BitVec 32 := 2#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v12 : BitVec 32 := Scalar.muli c2_i32_6 v5
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v13 : BitVec 32 := Scalar.addi v12 v8
  let c0_i32_29 : BitVec 32 := 0#32
  let v45 : BitVec 32 := Scalar.addi v13 c0_i32_29
  let c4_i32_30 : BitVec 32 := 4#32
  let v46 : BitVec 32 := Scalar.remsi v45 c4_i32_30
  let c3_i32_88 : BitVec 32 := 3#32
  let c0_i32_95 : BitVec 32 := 0#32
  let c0_i32_96 : BitVec 32 := 0#32
  ![v46.toNat, 3, 0, 0]
def k0_dev7 (d0 : Dev nD) : Nat :=
  let c0_i32_92 : BitVec 32 := 0#32
  let c1_i32_3 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v9 : BitVec 32 := Scalar.subi c1_i32_3 v2
  let c4_i32_91 : BitVec 32 := 4#32
  let v129 : BitVec 32 := Scalar.muli v9 c4_i32_91
  let v130 : BitVec 32 := Scalar.addi c0_i32_92 v129
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_93 : BitVec 32 := 2#32
  let v131 : BitVec 32 := Scalar.muli v5 c2_i32_93
  let v132 : BitVec 32 := Scalar.addi v130 v131
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_94 : BitVec 32 := 1#32
  let v133 : BitVec 32 := Scalar.muli v8 c1_i32_94
  let v134 : BitVec 32 := Scalar.addi v132 v133
  v134.toNat
def k0_off14 (d0 : Dev nD) (c0_i32_29 : BitVec 32) : Fin 4 → Nat :=
  let c2_i32_6 : BitVec 32 := 2#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v12 : BitVec 32 := Scalar.muli c2_i32_6 v5
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v13 : BitVec 32 := Scalar.addi v12 v8
  let v45 : BitVec 32 := Scalar.addi v13 c0_i32_29
  let c4_i32_30 : BitVec 32 := 4#32
  let v46 : BitVec 32 := Scalar.remsi v45 c4_i32_30
  let v149 : Index := Scalar.indexCast v46
  let c4 : Index := 4#32
  let c0_102 : Index := 0#32
  let c0_103 : Index := 0#32
  ![v149.toNat, 4, 0, 0]
def k0_off15 (d0 : Dev nD) : Fin 2 → Nat :=
  let c2_i32_6 : BitVec 32 := 2#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v12 : BitVec 32 := Scalar.muli c2_i32_6 v5
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v13 : BitVec 32 := Scalar.addi v12 v8
  let c0_i32_29 : BitVec 32 := 0#32
  let v45 : BitVec 32 := Scalar.addi v13 c0_i32_29
  let c4_i32_30 : BitVec 32 := 4#32
  let v46 : BitVec 32 := Scalar.remsi v45 c4_i32_30
  let c4_i32_106 : BitVec 32 := 4#32
  ![v46.toNat, 4]
def k0_off16 (d0 : Dev nD) : Fin 4 → Nat :=
  let c2_i32_6 : BitVec 32 := 2#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v12 : BitVec 32 := Scalar.muli c2_i32_6 v5
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v13 : BitVec 32 := Scalar.addi v12 v8
  let c0_i32_29 : BitVec 32 := 0#32
  let v45 : BitVec 32 := Scalar.addi v13 c0_i32_29
  let c4_i32_30 : BitVec 32 := 4#32
  let v46 : BitVec 32 := Scalar.remsi v45 c4_i32_30
  let c4_i32_105 : BitVec 32 := 4#32
  let c0_i32_112 : BitVec 32 := 0#32
  let c0_i32_113 : BitVec 32 := 0#32
  ![v46.toNat, 4, 0, 0]
def k0_dev8 (d0 : Dev nD) : Nat :=
  let c0_i32_109 : BitVec 32 := 0#32
  let c1_i32_3 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v9 : BitVec 32 := Scalar.subi c1_i32_3 v2
  let c4_i32_108 : BitVec 32 := 4#32
  let v153 : BitVec 32 := Scalar.muli v9 c4_i32_108
  let v154 : BitVec 32 := Scalar.addi c0_i32_109 v153
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_110 : BitVec 32 := 2#32
  let v155 : BitVec 32 := Scalar.muli v5 c2_i32_110
  let v156 : BitVec 32 := Scalar.addi v154 v155
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_111 : BitVec 32 := 1#32
  let v157 : BitVec 32 := Scalar.muli v8 c1_i32_111
  let v158 : BitVec 32 := Scalar.addi v156 v157
  v158.toNat
def k0_off17 (d0 : Dev nD) (c0_i32_29 : BitVec 32) : Fin 4 → Nat :=
  let c2_i32_6 : BitVec 32 := 2#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v12 : BitVec 32 := Scalar.muli c2_i32_6 v5
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v13 : BitVec 32 := Scalar.addi v12 v8
  let v45 : BitVec 32 := Scalar.addi v13 c0_i32_29
  let c4_i32_30 : BitVec 32 := 4#32
  let v46 : BitVec 32 := Scalar.remsi v45 c4_i32_30
  let v173 : Index := Scalar.indexCast v46
  let c5 : Index := 5#32
  let c0_119 : Index := 0#32
  let c0_120 : Index := 0#32
  ![v173.toNat, 5, 0, 0]
def k0_off18 (d0 : Dev nD) : Fin 2 → Nat :=
  let c2_i32_6 : BitVec 32 := 2#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v12 : BitVec 32 := Scalar.muli c2_i32_6 v5
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v13 : BitVec 32 := Scalar.addi v12 v8
  let c0_i32_29 : BitVec 32 := 0#32
  let v45 : BitVec 32 := Scalar.addi v13 c0_i32_29
  let c4_i32_30 : BitVec 32 := 4#32
  let v46 : BitVec 32 := Scalar.remsi v45 c4_i32_30
  let c5_i32_122 : BitVec 32 := 5#32
  ![v46.toNat, 5]
def k0_off19 (d0 : Dev nD) : Fin 4 → Nat :=
  let c2_i32_6 : BitVec 32 := 2#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v12 : BitVec 32 := Scalar.muli c2_i32_6 v5
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v13 : BitVec 32 := Scalar.addi v12 v8
  let c0_i32_29 : BitVec 32 := 0#32
  let v45 : BitVec 32 := Scalar.addi v13 c0_i32_29
  let c4_i32_30 : BitVec 32 := 4#32
  let v46 : BitVec 32 := Scalar.remsi v45 c4_i32_30
  let c5_i32_121 : BitVec 32 := 5#32
  let c0_i32_128 : BitVec 32 := 0#32
  let c0_i32_129 : BitVec 32 := 0#32
  ![v46.toNat, 5, 0, 0]
def k0_dev9 (d0 : Dev nD) : Nat :=
  let c0_i32_125 : BitVec 32 := 0#32
  let c1_i32_3 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v9 : BitVec 32 := Scalar.subi c1_i32_3 v2
  let c4_i32_124 : BitVec 32 := 4#32
  let v177 : BitVec 32 := Scalar.muli v9 c4_i32_124
  let v178 : BitVec 32 := Scalar.addi c0_i32_125 v177
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_126 : BitVec 32 := 2#32
  let v179 : BitVec 32 := Scalar.muli v5 c2_i32_126
  let v180 : BitVec 32 := Scalar.addi v178 v179
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_127 : BitVec 32 := 1#32
  let v181 : BitVec 32 := Scalar.muli v8 c1_i32_127
  let v182 : BitVec 32 := Scalar.addi v180 v181
  v182.toNat
def k0_off20 (d0 : Dev nD) (c0_i32_29 : BitVec 32) : Fin 4 → Nat :=
  let c2_i32_6 : BitVec 32 := 2#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v12 : BitVec 32 := Scalar.muli c2_i32_6 v5
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v13 : BitVec 32 := Scalar.addi v12 v8
  let v45 : BitVec 32 := Scalar.addi v13 c0_i32_29
  let c4_i32_30 : BitVec 32 := 4#32
  let v46 : BitVec 32 := Scalar.remsi v45 c4_i32_30
  let v197 : Index := Scalar.indexCast v46
  let c6 : Index := 6#32
  let c0_135 : Index := 0#32
  let c0_136 : Index := 0#32
  ![v197.toNat, 6, 0, 0]
def k0_off21 (d0 : Dev nD) : Fin 2 → Nat :=
  let c2_i32_6 : BitVec 32 := 2#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v12 : BitVec 32 := Scalar.muli c2_i32_6 v5
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v13 : BitVec 32 := Scalar.addi v12 v8
  let c0_i32_29 : BitVec 32 := 0#32
  let v45 : BitVec 32 := Scalar.addi v13 c0_i32_29
  let c4_i32_30 : BitVec 32 := 4#32
  let v46 : BitVec 32 := Scalar.remsi v45 c4_i32_30
  let c6_i32_138 : BitVec 32 := 6#32
  ![v46.toNat, 6]
def k0_off22 (d0 : Dev nD) : Fin 4 → Nat :=
  let c2_i32_6 : BitVec 32 := 2#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v12 : BitVec 32 := Scalar.muli c2_i32_6 v5
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v13 : BitVec 32 := Scalar.addi v12 v8
  let c0_i32_29 : BitVec 32 := 0#32
  let v45 : BitVec 32 := Scalar.addi v13 c0_i32_29
  let c4_i32_30 : BitVec 32 := 4#32
  let v46 : BitVec 32 := Scalar.remsi v45 c4_i32_30
  let c6_i32_137 : BitVec 32 := 6#32
  let c0_i32_144 : BitVec 32 := 0#32
  let c0_i32_145 : BitVec 32 := 0#32
  ![v46.toNat, 6, 0, 0]
def k0_dev10 (d0 : Dev nD) : Nat :=
  let c0_i32_141 : BitVec 32 := 0#32
  let c1_i32_3 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v9 : BitVec 32 := Scalar.subi c1_i32_3 v2
  let c4_i32_140 : BitVec 32 := 4#32
  let v201 : BitVec 32 := Scalar.muli v9 c4_i32_140
  let v202 : BitVec 32 := Scalar.addi c0_i32_141 v201
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_142 : BitVec 32 := 2#32
  let v203 : BitVec 32 := Scalar.muli v5 c2_i32_142
  let v204 : BitVec 32 := Scalar.addi v202 v203
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_143 : BitVec 32 := 1#32
  let v205 : BitVec 32 := Scalar.muli v8 c1_i32_143
  let v206 : BitVec 32 := Scalar.addi v204 v205
  v206.toNat
def k0_off23 (d0 : Dev nD) (c0_i32_29 : BitVec 32) : Fin 4 → Nat :=
  let c2_i32_6 : BitVec 32 := 2#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v12 : BitVec 32 := Scalar.muli c2_i32_6 v5
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v13 : BitVec 32 := Scalar.addi v12 v8
  let v45 : BitVec 32 := Scalar.addi v13 c0_i32_29
  let c4_i32_30 : BitVec 32 := 4#32
  let v46 : BitVec 32 := Scalar.remsi v45 c4_i32_30
  let v221 : Index := Scalar.indexCast v46
  let c7 : Index := 7#32
  let c0_151 : Index := 0#32
  let c0_152 : Index := 0#32
  ![v221.toNat, 7, 0, 0]
def k0_off24 (d0 : Dev nD) : Fin 2 → Nat :=
  let c2_i32_6 : BitVec 32 := 2#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v12 : BitVec 32 := Scalar.muli c2_i32_6 v5
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v13 : BitVec 32 := Scalar.addi v12 v8
  let c0_i32_29 : BitVec 32 := 0#32
  let v45 : BitVec 32 := Scalar.addi v13 c0_i32_29
  let c4_i32_30 : BitVec 32 := 4#32
  let v46 : BitVec 32 := Scalar.remsi v45 c4_i32_30
  let c7_i32_154 : BitVec 32 := 7#32
  ![v46.toNat, 7]
def k0_off25 (d0 : Dev nD) : Fin 4 → Nat :=
  let c2_i32_6 : BitVec 32 := 2#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v12 : BitVec 32 := Scalar.muli c2_i32_6 v5
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v13 : BitVec 32 := Scalar.addi v12 v8
  let c0_i32_29 : BitVec 32 := 0#32
  let v45 : BitVec 32 := Scalar.addi v13 c0_i32_29
  let c4_i32_30 : BitVec 32 := 4#32
  let v46 : BitVec 32 := Scalar.remsi v45 c4_i32_30
  let c7_i32_153 : BitVec 32 := 7#32
  let c0_i32_160 : BitVec 32 := 0#32
  let c0_i32_161 : BitVec 32 := 0#32
  ![v46.toNat, 7, 0, 0]
def k0_dev11 (d0 : Dev nD) : Nat :=
  let c0_i32_157 : BitVec 32 := 0#32
  let c1_i32_3 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v9 : BitVec 32 := Scalar.subi c1_i32_3 v2
  let c4_i32_156 : BitVec 32 := 4#32
  let v225 : BitVec 32 := Scalar.muli v9 c4_i32_156
  let v226 : BitVec 32 := Scalar.addi c0_i32_157 v225
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_158 : BitVec 32 := 2#32
  let v227 : BitVec 32 := Scalar.muli v5 c2_i32_158
  let v228 : BitVec 32 := Scalar.addi v226 v227
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_159 : BitVec 32 := 1#32
  let v229 : BitVec 32 := Scalar.muli v8 c1_i32_159
  let v230 : BitVec 32 := Scalar.addi v228 v229
  v230.toNat
def k0_off26 (d0 : Dev nD) : Fin 2 → Nat :=
  let c2_i32_12 : BitVec 32 := 2#32
  let c1_i32_11 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v20 : BitVec 32 := Scalar.subi c1_i32_11 v5
  let v21 : BitVec 32 := Scalar.muli c2_i32_12 v20
  let c1_i32_13 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v22 : BitVec 32 := Scalar.subi c1_i32_13 v8
  let v23 : BitVec 32 := Scalar.addi v21 v22
  let c0_i32_340 : BitVec 32 := 0#32
  ![v23.toNat, 0]
def k0_off27 (d0 : Dev nD) : Fin 4 → Nat :=
  let c2_i32_12 : BitVec 32 := 2#32
  let c1_i32_11 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v20 : BitVec 32 := Scalar.subi c1_i32_11 v5
  let v21 : BitVec 32 := Scalar.muli c2_i32_12 v20
  let c1_i32_13 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v22 : BitVec 32 := Scalar.subi c1_i32_13 v8
  let v23 : BitVec 32 := Scalar.addi v21 v22
  let c0_i32_339 : BitVec 32 := 0#32
  let c0_i32_346 : BitVec 32 := 0#32
  let c0_i32_347 : BitVec 32 := 0#32
  ![v23.toNat, 0, 0, 0]
def k0_dev12 (d0 : Dev nD) : Nat :=
  let c0_i32_343 : BitVec 32 := 0#32
  let c1_i32_3 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v9 : BitVec 32 := Scalar.subi c1_i32_3 v2
  let c4_i32_342 : BitVec 32 := 4#32
  let v485 : BitVec 32 := Scalar.muli v9 c4_i32_342
  let v486 : BitVec 32 := Scalar.addi c0_i32_343 v485
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_344 : BitVec 32 := 2#32
  let v487 : BitVec 32 := Scalar.muli v5 c2_i32_344
  let v488 : BitVec 32 := Scalar.addi v486 v487
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_345 : BitVec 32 := 1#32
  let v489 : BitVec 32 := Scalar.muli v8 c1_i32_345
  let v490 : BitVec 32 := Scalar.addi v488 v489
  v490.toNat
def k0_off28 (d0 : Dev nD) : Fin 2 → Nat :=
  let c2_i32_12 : BitVec 32 := 2#32
  let c1_i32_11 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v20 : BitVec 32 := Scalar.subi c1_i32_11 v5
  let v21 : BitVec 32 := Scalar.muli c2_i32_12 v20
  let c1_i32_13 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v22 : BitVec 32 := Scalar.subi c1_i32_13 v8
  let v23 : BitVec 32 := Scalar.addi v21 v22
  let c1_i32_352 : BitVec 32 := 1#32
  ![v23.toNat, 1]
def k0_off29 (d0 : Dev nD) : Fin 4 → Nat :=
  let c2_i32_12 : BitVec 32 := 2#32
  let c1_i32_11 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v20 : BitVec 32 := Scalar.subi c1_i32_11 v5
  let v21 : BitVec 32 := Scalar.muli c2_i32_12 v20
  let c1_i32_13 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v22 : BitVec 32 := Scalar.subi c1_i32_13 v8
  let v23 : BitVec 32 := Scalar.addi v21 v22
  let c1_i32_351 : BitVec 32 := 1#32
  let c0_i32_358 : BitVec 32 := 0#32
  let c0_i32_359 : BitVec 32 := 0#32
  ![v23.toNat, 1, 0, 0]
def k0_dev13 (d0 : Dev nD) : Nat :=
  let c0_i32_355 : BitVec 32 := 0#32
  let c1_i32_3 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v9 : BitVec 32 := Scalar.subi c1_i32_3 v2
  let c4_i32_354 : BitVec 32 := 4#32
  let v499 : BitVec 32 := Scalar.muli v9 c4_i32_354
  let v500 : BitVec 32 := Scalar.addi c0_i32_355 v499
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_356 : BitVec 32 := 2#32
  let v501 : BitVec 32 := Scalar.muli v5 c2_i32_356
  let v502 : BitVec 32 := Scalar.addi v500 v501
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_357 : BitVec 32 := 1#32
  let v503 : BitVec 32 := Scalar.muli v8 c1_i32_357
  let v504 : BitVec 32 := Scalar.addi v502 v503
  v504.toNat
def k0_off30 (d0 : Dev nD) : Fin 2 → Nat :=
  let c2_i32_12 : BitVec 32 := 2#32
  let c1_i32_11 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v20 : BitVec 32 := Scalar.subi c1_i32_11 v5
  let v21 : BitVec 32 := Scalar.muli c2_i32_12 v20
  let c1_i32_13 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v22 : BitVec 32 := Scalar.subi c1_i32_13 v8
  let v23 : BitVec 32 := Scalar.addi v21 v22
  let c2_i32_364 : BitVec 32 := 2#32
  ![v23.toNat, 2]
def k0_off31 (d0 : Dev nD) : Fin 4 → Nat :=
  let c2_i32_12 : BitVec 32 := 2#32
  let c1_i32_11 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v20 : BitVec 32 := Scalar.subi c1_i32_11 v5
  let v21 : BitVec 32 := Scalar.muli c2_i32_12 v20
  let c1_i32_13 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v22 : BitVec 32 := Scalar.subi c1_i32_13 v8
  let v23 : BitVec 32 := Scalar.addi v21 v22
  let c2_i32_363 : BitVec 32 := 2#32
  let c0_i32_370 : BitVec 32 := 0#32
  let c0_i32_371 : BitVec 32 := 0#32
  ![v23.toNat, 2, 0, 0]
def k0_dev14 (d0 : Dev nD) : Nat :=
  let c0_i32_367 : BitVec 32 := 0#32
  let c1_i32_3 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v9 : BitVec 32 := Scalar.subi c1_i32_3 v2
  let c4_i32_366 : BitVec 32 := 4#32
  let v513 : BitVec 32 := Scalar.muli v9 c4_i32_366
  let v514 : BitVec 32 := Scalar.addi c0_i32_367 v513
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_368 : BitVec 32 := 2#32
  let v515 : BitVec 32 := Scalar.muli v5 c2_i32_368
  let v516 : BitVec 32 := Scalar.addi v514 v515
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_369 : BitVec 32 := 1#32
  let v517 : BitVec 32 := Scalar.muli v8 c1_i32_369
  let v518 : BitVec 32 := Scalar.addi v516 v517
  v518.toNat
def k0_off32 (d0 : Dev nD) : Fin 2 → Nat :=
  let c2_i32_12 : BitVec 32 := 2#32
  let c1_i32_11 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v20 : BitVec 32 := Scalar.subi c1_i32_11 v5
  let v21 : BitVec 32 := Scalar.muli c2_i32_12 v20
  let c1_i32_13 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v22 : BitVec 32 := Scalar.subi c1_i32_13 v8
  let v23 : BitVec 32 := Scalar.addi v21 v22
  let c3_i32_376 : BitVec 32 := 3#32
  ![v23.toNat, 3]
def k0_off33 (d0 : Dev nD) : Fin 4 → Nat :=
  let c2_i32_12 : BitVec 32 := 2#32
  let c1_i32_11 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v20 : BitVec 32 := Scalar.subi c1_i32_11 v5
  let v21 : BitVec 32 := Scalar.muli c2_i32_12 v20
  let c1_i32_13 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v22 : BitVec 32 := Scalar.subi c1_i32_13 v8
  let v23 : BitVec 32 := Scalar.addi v21 v22
  let c3_i32_375 : BitVec 32 := 3#32
  let c0_i32_382 : BitVec 32 := 0#32
  let c0_i32_383 : BitVec 32 := 0#32
  ![v23.toNat, 3, 0, 0]
def k0_dev15 (d0 : Dev nD) : Nat :=
  let c0_i32_379 : BitVec 32 := 0#32
  let c1_i32_3 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v9 : BitVec 32 := Scalar.subi c1_i32_3 v2
  let c4_i32_378 : BitVec 32 := 4#32
  let v527 : BitVec 32 := Scalar.muli v9 c4_i32_378
  let v528 : BitVec 32 := Scalar.addi c0_i32_379 v527
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_380 : BitVec 32 := 2#32
  let v529 : BitVec 32 := Scalar.muli v5 c2_i32_380
  let v530 : BitVec 32 := Scalar.addi v528 v529
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_381 : BitVec 32 := 1#32
  let v531 : BitVec 32 := Scalar.muli v8 c1_i32_381
  let v532 : BitVec 32 := Scalar.addi v530 v531
  v532.toNat
def k0_off34 (d0 : Dev nD) (c0_i32_392 : BitVec 32) (c0_i32_393 : BitVec 32) : Fin 2 → Nat :=
  let c0_394 : Index := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4096_i32 : BitVec 32 := 4096#32
  let v542 : BitVec 32 := Scalar.muli v2 c4096_i32
  let v549 : BitVec 32 := Scalar.addi v542 c0_i32_392
  let v550 : BitVec 32 := Scalar.addi v549 c0_i32_393
  let v551 : Index := Scalar.indexCast v550
  ![0, v551.toNat]
def k0_off35 (d0 : Dev nD) : Fin 2 → Nat :=
  let c2_i32_6 : BitVec 32 := 2#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v12 : BitVec 32 := Scalar.muli c2_i32_6 v5
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v13 : BitVec 32 := Scalar.addi v12 v8
  let c0_i32_645 : BitVec 32 := 0#32
  ![v13.toNat, 0]
def k0_off36 (d0 : Dev nD) : Fin 4 → Nat :=
  let c2_i32_6 : BitVec 32 := 2#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v12 : BitVec 32 := Scalar.muli c2_i32_6 v5
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v13 : BitVec 32 := Scalar.addi v12 v8
  let c0_i32_644 : BitVec 32 := 0#32
  let c0_i32_651 : BitVec 32 := 0#32
  let c0_i32_652 : BitVec 32 := 0#32
  ![v13.toNat, 0, 0, 0]
def k0_dev16 (d0 : Dev nD) : Nat :=
  let c0_i32_660 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_659 : BitVec 32 := 4#32
  let v877 : BitVec 32 := Scalar.muli v2 c4_i32_659
  let v878 : BitVec 32 := Scalar.addi c0_i32_660 v877
  let c1_i32_4 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v10 : BitVec 32 := Scalar.subi c1_i32_4 v5
  let c2_i32_661 : BitVec 32 := 2#32
  let v879 : BitVec 32 := Scalar.muli v10 c2_i32_661
  let v880 : BitVec 32 := Scalar.addi v878 v879
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_662 : BitVec 32 := 1#32
  let v881 : BitVec 32 := Scalar.muli v8 c1_i32_662
  let v882 : BitVec 32 := Scalar.addi v880 v881
  v882.toNat
def k0_dev17 (d0 : Dev nD) : Nat :=
  let c0_i32_672 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_671 : BitVec 32 := 4#32
  let v891 : BitVec 32 := Scalar.muli v2 c4_i32_671
  let v892 : BitVec 32 := Scalar.addi c0_i32_672 v891
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_673 : BitVec 32 := 2#32
  let v893 : BitVec 32 := Scalar.muli v5 c2_i32_673
  let v894 : BitVec 32 := Scalar.addi v892 v893
  let c1_i32_5 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v11 : BitVec 32 := Scalar.subi c1_i32_5 v8
  let c1_i32_674 : BitVec 32 := 1#32
  let v895 : BitVec 32 := Scalar.muli v11 c1_i32_674
  let v896 : BitVec 32 := Scalar.addi v894 v895
  v896.toNat
def k0_off37 (d0 : Dev nD) : Fin 4 → Nat :=
  let c2_i32_6 : BitVec 32 := 2#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v12 : BitVec 32 := Scalar.muli c2_i32_6 v5
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v13 : BitVec 32 := Scalar.addi v12 v8
  let v905 : Index := Scalar.indexCast v13
  let c0_679 : Index := 0#32
  let c0_680 : Index := 0#32
  let c0_681 : Index := 0#32
  ![v905.toNat, 0, 0, 0]
def k0_off38 (d0 : Dev nD) (c0_i32_683 : BitVec 32) : Fin 2 → Nat :=
  let c0_684 : Index := 0#32
  let c1_i32_641 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v863 : BitVec 32 := Scalar.subi c1_i32_641 v2
  let c4096_i32_642 : BitVec 32 := 4096#32
  let v864 : BitVec 32 := Scalar.muli v863 c4096_i32_642
  let c2_i32_6 : BitVec 32 := 2#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v12 : BitVec 32 := Scalar.muli c2_i32_6 v5
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v13 : BitVec 32 := Scalar.addi v12 v8
  let c1024_i32_682 : BitVec 32 := 1024#32
  let v909 : BitVec 32 := Scalar.muli v13 c1024_i32_682
  let v910 : BitVec 32 := Scalar.addi v864 v909
  let v911 : BitVec 32 := Scalar.addi v910 c0_i32_683
  let v912 : Index := Scalar.indexCast v911
  ![0, v912.toNat]
def k0_off39 (d0 : Dev nD) : Fin 2 → Nat :=
  let c2_i32_6 : BitVec 32 := 2#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v12 : BitVec 32 := Scalar.muli c2_i32_6 v5
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v13 : BitVec 32 := Scalar.addi v12 v8
  let c1_i32_688 : BitVec 32 := 1#32
  ![v13.toNat, 1]
def k0_off40 (d0 : Dev nD) : Fin 4 → Nat :=
  let c2_i32_6 : BitVec 32 := 2#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v12 : BitVec 32 := Scalar.muli c2_i32_6 v5
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v13 : BitVec 32 := Scalar.addi v12 v8
  let c1_i32_687 : BitVec 32 := 1#32
  let c0_i32_694 : BitVec 32 := 0#32
  let c0_i32_695 : BitVec 32 := 0#32
  ![v13.toNat, 1, 0, 0]
def k0_dev18 (d0 : Dev nD) : Nat :=
  let c0_i32_703 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_702 : BitVec 32 := 4#32
  let v929 : BitVec 32 := Scalar.muli v2 c4_i32_702
  let v930 : BitVec 32 := Scalar.addi c0_i32_703 v929
  let c1_i32_4 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v10 : BitVec 32 := Scalar.subi c1_i32_4 v5
  let c2_i32_704 : BitVec 32 := 2#32
  let v931 : BitVec 32 := Scalar.muli v10 c2_i32_704
  let v932 : BitVec 32 := Scalar.addi v930 v931
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_705 : BitVec 32 := 1#32
  let v933 : BitVec 32 := Scalar.muli v8 c1_i32_705
  let v934 : BitVec 32 := Scalar.addi v932 v933
  v934.toNat
def k0_dev19 (d0 : Dev nD) : Nat :=
  let c0_i32_715 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_714 : BitVec 32 := 4#32
  let v943 : BitVec 32 := Scalar.muli v2 c4_i32_714
  let v944 : BitVec 32 := Scalar.addi c0_i32_715 v943
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_716 : BitVec 32 := 2#32
  let v945 : BitVec 32 := Scalar.muli v5 c2_i32_716
  let v946 : BitVec 32 := Scalar.addi v944 v945
  let c1_i32_5 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v11 : BitVec 32 := Scalar.subi c1_i32_5 v8
  let c1_i32_717 : BitVec 32 := 1#32
  let v947 : BitVec 32 := Scalar.muli v11 c1_i32_717
  let v948 : BitVec 32 := Scalar.addi v946 v947
  v948.toNat
def k0_off41 (d0 : Dev nD) : Fin 4 → Nat :=
  let c2_i32_6 : BitVec 32 := 2#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v12 : BitVec 32 := Scalar.muli c2_i32_6 v5
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v13 : BitVec 32 := Scalar.addi v12 v8
  let v957 : Index := Scalar.indexCast v13
  let c1_722 : Index := 1#32
  let c0_723 : Index := 0#32
  let c0_724 : Index := 0#32
  ![v957.toNat, 1, 0, 0]
def k0_off42 (d0 : Dev nD) : Fin 2 → Nat :=
  let c2_i32_6 : BitVec 32 := 2#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v12 : BitVec 32 := Scalar.muli c2_i32_6 v5
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v13 : BitVec 32 := Scalar.addi v12 v8
  let c2_i32_731 : BitVec 32 := 2#32
  ![v13.toNat, 2]
def k0_off43 (d0 : Dev nD) : Fin 4 → Nat :=
  let c2_i32_6 : BitVec 32 := 2#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v12 : BitVec 32 := Scalar.muli c2_i32_6 v5
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v13 : BitVec 32 := Scalar.addi v12 v8
  let c2_i32_730 : BitVec 32 := 2#32
  let c0_i32_737 : BitVec 32 := 0#32
  let c0_i32_738 : BitVec 32 := 0#32
  ![v13.toNat, 2, 0, 0]
def k0_dev20 (d0 : Dev nD) : Nat :=
  let c0_i32_746 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_745 : BitVec 32 := 4#32
  let v981 : BitVec 32 := Scalar.muli v2 c4_i32_745
  let v982 : BitVec 32 := Scalar.addi c0_i32_746 v981
  let c1_i32_4 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v10 : BitVec 32 := Scalar.subi c1_i32_4 v5
  let c2_i32_747 : BitVec 32 := 2#32
  let v983 : BitVec 32 := Scalar.muli v10 c2_i32_747
  let v984 : BitVec 32 := Scalar.addi v982 v983
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_748 : BitVec 32 := 1#32
  let v985 : BitVec 32 := Scalar.muli v8 c1_i32_748
  let v986 : BitVec 32 := Scalar.addi v984 v985
  v986.toNat
def k0_dev21 (d0 : Dev nD) : Nat :=
  let c0_i32_758 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_757 : BitVec 32 := 4#32
  let v995 : BitVec 32 := Scalar.muli v2 c4_i32_757
  let v996 : BitVec 32 := Scalar.addi c0_i32_758 v995
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_759 : BitVec 32 := 2#32
  let v997 : BitVec 32 := Scalar.muli v5 c2_i32_759
  let v998 : BitVec 32 := Scalar.addi v996 v997
  let c1_i32_5 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v11 : BitVec 32 := Scalar.subi c1_i32_5 v8
  let c1_i32_760 : BitVec 32 := 1#32
  let v999 : BitVec 32 := Scalar.muli v11 c1_i32_760
  let v1000 : BitVec 32 := Scalar.addi v998 v999
  v1000.toNat
def k0_off44 (d0 : Dev nD) : Fin 4 → Nat :=
  let c2_i32_6 : BitVec 32 := 2#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v12 : BitVec 32 := Scalar.muli c2_i32_6 v5
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v13 : BitVec 32 := Scalar.addi v12 v8
  let v1009 : Index := Scalar.indexCast v13
  let c2_765 : Index := 2#32
  let c0_766 : Index := 0#32
  let c0_767 : Index := 0#32
  ![v1009.toNat, 2, 0, 0]
def k0_off45 (d0 : Dev nD) : Fin 2 → Nat :=
  let c2_i32_6 : BitVec 32 := 2#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v12 : BitVec 32 := Scalar.muli c2_i32_6 v5
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v13 : BitVec 32 := Scalar.addi v12 v8
  let c3_i32_774 : BitVec 32 := 3#32
  ![v13.toNat, 3]
def k0_off46 (d0 : Dev nD) : Fin 4 → Nat :=
  let c2_i32_6 : BitVec 32 := 2#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v12 : BitVec 32 := Scalar.muli c2_i32_6 v5
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v13 : BitVec 32 := Scalar.addi v12 v8
  let c3_i32_773 : BitVec 32 := 3#32
  let c0_i32_780 : BitVec 32 := 0#32
  let c0_i32_781 : BitVec 32 := 0#32
  ![v13.toNat, 3, 0, 0]
def k0_dev22 (d0 : Dev nD) : Nat :=
  let c0_i32_789 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_788 : BitVec 32 := 4#32
  let v1033 : BitVec 32 := Scalar.muli v2 c4_i32_788
  let v1034 : BitVec 32 := Scalar.addi c0_i32_789 v1033
  let c1_i32_4 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v10 : BitVec 32 := Scalar.subi c1_i32_4 v5
  let c2_i32_790 : BitVec 32 := 2#32
  let v1035 : BitVec 32 := Scalar.muli v10 c2_i32_790
  let v1036 : BitVec 32 := Scalar.addi v1034 v1035
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_791 : BitVec 32 := 1#32
  let v1037 : BitVec 32 := Scalar.muli v8 c1_i32_791
  let v1038 : BitVec 32 := Scalar.addi v1036 v1037
  v1038.toNat
def k0_dev23 (d0 : Dev nD) : Nat :=
  let c0_i32_801 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_800 : BitVec 32 := 4#32
  let v1047 : BitVec 32 := Scalar.muli v2 c4_i32_800
  let v1048 : BitVec 32 := Scalar.addi c0_i32_801 v1047
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_802 : BitVec 32 := 2#32
  let v1049 : BitVec 32 := Scalar.muli v5 c2_i32_802
  let v1050 : BitVec 32 := Scalar.addi v1048 v1049
  let c1_i32_5 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v11 : BitVec 32 := Scalar.subi c1_i32_5 v8
  let c1_i32_803 : BitVec 32 := 1#32
  let v1051 : BitVec 32 := Scalar.muli v11 c1_i32_803
  let v1052 : BitVec 32 := Scalar.addi v1050 v1051
  v1052.toNat
def k0_off47 (d0 : Dev nD) : Fin 4 → Nat :=
  let c2_i32_6 : BitVec 32 := 2#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v12 : BitVec 32 := Scalar.muli c2_i32_6 v5
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v13 : BitVec 32 := Scalar.addi v12 v8
  let v1061 : Index := Scalar.indexCast v13
  let c3_808 : Index := 3#32
  let c0_809 : Index := 0#32
  let c0_810 : Index := 0#32
  ![v1061.toNat, 3, 0, 0]
def k0_off48 (d0 : Dev nD) : Fin 2 → Nat :=
  let c2_i32_6 : BitVec 32 := 2#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v12 : BitVec 32 := Scalar.muli c2_i32_6 v5
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v13 : BitVec 32 := Scalar.addi v12 v8
  let c4_i32_817 : BitVec 32 := 4#32
  ![v13.toNat, 4]
def k0_off49 (d0 : Dev nD) : Fin 4 → Nat :=
  let c2_i32_6 : BitVec 32 := 2#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v12 : BitVec 32 := Scalar.muli c2_i32_6 v5
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v13 : BitVec 32 := Scalar.addi v12 v8
  let c4_i32_816 : BitVec 32 := 4#32
  let c0_i32_823 : BitVec 32 := 0#32
  let c0_i32_824 : BitVec 32 := 0#32
  ![v13.toNat, 4, 0, 0]
def k0_dev24 (d0 : Dev nD) : Nat :=
  let c0_i32_832 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_831 : BitVec 32 := 4#32
  let v1085 : BitVec 32 := Scalar.muli v2 c4_i32_831
  let v1086 : BitVec 32 := Scalar.addi c0_i32_832 v1085
  let c1_i32_4 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v10 : BitVec 32 := Scalar.subi c1_i32_4 v5
  let c2_i32_833 : BitVec 32 := 2#32
  let v1087 : BitVec 32 := Scalar.muli v10 c2_i32_833
  let v1088 : BitVec 32 := Scalar.addi v1086 v1087
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_834 : BitVec 32 := 1#32
  let v1089 : BitVec 32 := Scalar.muli v8 c1_i32_834
  let v1090 : BitVec 32 := Scalar.addi v1088 v1089
  v1090.toNat
def k0_dev25 (d0 : Dev nD) : Nat :=
  let c0_i32_844 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_843 : BitVec 32 := 4#32
  let v1099 : BitVec 32 := Scalar.muli v2 c4_i32_843
  let v1100 : BitVec 32 := Scalar.addi c0_i32_844 v1099
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_845 : BitVec 32 := 2#32
  let v1101 : BitVec 32 := Scalar.muli v5 c2_i32_845
  let v1102 : BitVec 32 := Scalar.addi v1100 v1101
  let c1_i32_5 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v11 : BitVec 32 := Scalar.subi c1_i32_5 v8
  let c1_i32_846 : BitVec 32 := 1#32
  let v1103 : BitVec 32 := Scalar.muli v11 c1_i32_846
  let v1104 : BitVec 32 := Scalar.addi v1102 v1103
  v1104.toNat
def k0_off50 (d0 : Dev nD) : Fin 4 → Nat :=
  let c2_i32_6 : BitVec 32 := 2#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v12 : BitVec 32 := Scalar.muli c2_i32_6 v5
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v13 : BitVec 32 := Scalar.addi v12 v8
  let v1113 : Index := Scalar.indexCast v13
  let c4_851 : Index := 4#32
  let c0_852 : Index := 0#32
  let c0_853 : Index := 0#32
  ![v1113.toNat, 4, 0, 0]
def k0_off51 (d0 : Dev nD) : Fin 2 → Nat :=
  let c2_i32_6 : BitVec 32 := 2#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v12 : BitVec 32 := Scalar.muli c2_i32_6 v5
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v13 : BitVec 32 := Scalar.addi v12 v8
  let c5_i32_860 : BitVec 32 := 5#32
  ![v13.toNat, 5]
def k0_off52 (d0 : Dev nD) : Fin 4 → Nat :=
  let c2_i32_6 : BitVec 32 := 2#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v12 : BitVec 32 := Scalar.muli c2_i32_6 v5
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v13 : BitVec 32 := Scalar.addi v12 v8
  let c5_i32_859 : BitVec 32 := 5#32
  let c0_i32_866 : BitVec 32 := 0#32
  let c0_i32_867 : BitVec 32 := 0#32
  ![v13.toNat, 5, 0, 0]
def k0_dev26 (d0 : Dev nD) : Nat :=
  let c0_i32_875 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_874 : BitVec 32 := 4#32
  let v1137 : BitVec 32 := Scalar.muli v2 c4_i32_874
  let v1138 : BitVec 32 := Scalar.addi c0_i32_875 v1137
  let c1_i32_4 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v10 : BitVec 32 := Scalar.subi c1_i32_4 v5
  let c2_i32_876 : BitVec 32 := 2#32
  let v1139 : BitVec 32 := Scalar.muli v10 c2_i32_876
  let v1140 : BitVec 32 := Scalar.addi v1138 v1139
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_877 : BitVec 32 := 1#32
  let v1141 : BitVec 32 := Scalar.muli v8 c1_i32_877
  let v1142 : BitVec 32 := Scalar.addi v1140 v1141
  v1142.toNat
def k0_dev27 (d0 : Dev nD) : Nat :=
  let c0_i32_887 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_886 : BitVec 32 := 4#32
  let v1151 : BitVec 32 := Scalar.muli v2 c4_i32_886
  let v1152 : BitVec 32 := Scalar.addi c0_i32_887 v1151
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_888 : BitVec 32 := 2#32
  let v1153 : BitVec 32 := Scalar.muli v5 c2_i32_888
  let v1154 : BitVec 32 := Scalar.addi v1152 v1153
  let c1_i32_5 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v11 : BitVec 32 := Scalar.subi c1_i32_5 v8
  let c1_i32_889 : BitVec 32 := 1#32
  let v1155 : BitVec 32 := Scalar.muli v11 c1_i32_889
  let v1156 : BitVec 32 := Scalar.addi v1154 v1155
  v1156.toNat
def k0_off53 (d0 : Dev nD) : Fin 4 → Nat :=
  let c2_i32_6 : BitVec 32 := 2#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v12 : BitVec 32 := Scalar.muli c2_i32_6 v5
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v13 : BitVec 32 := Scalar.addi v12 v8
  let v1165 : Index := Scalar.indexCast v13
  let c5_894 : Index := 5#32
  let c0_895 : Index := 0#32
  let c0_896 : Index := 0#32
  ![v1165.toNat, 5, 0, 0]
def k0_off54 (d0 : Dev nD) : Fin 2 → Nat :=
  let c2_i32_6 : BitVec 32 := 2#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v12 : BitVec 32 := Scalar.muli c2_i32_6 v5
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v13 : BitVec 32 := Scalar.addi v12 v8
  let c6_i32_903 : BitVec 32 := 6#32
  ![v13.toNat, 6]
def k0_off55 (d0 : Dev nD) : Fin 4 → Nat :=
  let c2_i32_6 : BitVec 32 := 2#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v12 : BitVec 32 := Scalar.muli c2_i32_6 v5
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v13 : BitVec 32 := Scalar.addi v12 v8
  let c6_i32_902 : BitVec 32 := 6#32
  let c0_i32_909 : BitVec 32 := 0#32
  let c0_i32_910 : BitVec 32 := 0#32
  ![v13.toNat, 6, 0, 0]
def k0_dev28 (d0 : Dev nD) : Nat :=
  let c0_i32_918 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_917 : BitVec 32 := 4#32
  let v1189 : BitVec 32 := Scalar.muli v2 c4_i32_917
  let v1190 : BitVec 32 := Scalar.addi c0_i32_918 v1189
  let c1_i32_4 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v10 : BitVec 32 := Scalar.subi c1_i32_4 v5
  let c2_i32_919 : BitVec 32 := 2#32
  let v1191 : BitVec 32 := Scalar.muli v10 c2_i32_919
  let v1192 : BitVec 32 := Scalar.addi v1190 v1191
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_920 : BitVec 32 := 1#32
  let v1193 : BitVec 32 := Scalar.muli v8 c1_i32_920
  let v1194 : BitVec 32 := Scalar.addi v1192 v1193
  v1194.toNat
def k0_dev29 (d0 : Dev nD) : Nat :=
  let c0_i32_930 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_929 : BitVec 32 := 4#32
  let v1203 : BitVec 32 := Scalar.muli v2 c4_i32_929
  let v1204 : BitVec 32 := Scalar.addi c0_i32_930 v1203
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_931 : BitVec 32 := 2#32
  let v1205 : BitVec 32 := Scalar.muli v5 c2_i32_931
  let v1206 : BitVec 32 := Scalar.addi v1204 v1205
  let c1_i32_5 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v11 : BitVec 32 := Scalar.subi c1_i32_5 v8
  let c1_i32_932 : BitVec 32 := 1#32
  let v1207 : BitVec 32 := Scalar.muli v11 c1_i32_932
  let v1208 : BitVec 32 := Scalar.addi v1206 v1207
  v1208.toNat
def k0_off56 (d0 : Dev nD) : Fin 4 → Nat :=
  let c2_i32_6 : BitVec 32 := 2#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v12 : BitVec 32 := Scalar.muli c2_i32_6 v5
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v13 : BitVec 32 := Scalar.addi v12 v8
  let v1217 : Index := Scalar.indexCast v13
  let c6_937 : Index := 6#32
  let c0_938 : Index := 0#32
  let c0_939 : Index := 0#32
  ![v1217.toNat, 6, 0, 0]
def k0_off57 (d0 : Dev nD) : Fin 2 → Nat :=
  let c2_i32_6 : BitVec 32 := 2#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v12 : BitVec 32 := Scalar.muli c2_i32_6 v5
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v13 : BitVec 32 := Scalar.addi v12 v8
  let c7_i32_946 : BitVec 32 := 7#32
  ![v13.toNat, 7]
def k0_off58 (d0 : Dev nD) : Fin 4 → Nat :=
  let c2_i32_6 : BitVec 32 := 2#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v12 : BitVec 32 := Scalar.muli c2_i32_6 v5
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v13 : BitVec 32 := Scalar.addi v12 v8
  let c7_i32_945 : BitVec 32 := 7#32
  let c0_i32_952 : BitVec 32 := 0#32
  let c0_i32_953 : BitVec 32 := 0#32
  ![v13.toNat, 7, 0, 0]
def k0_dev30 (d0 : Dev nD) : Nat :=
  let c0_i32_961 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_960 : BitVec 32 := 4#32
  let v1241 : BitVec 32 := Scalar.muli v2 c4_i32_960
  let v1242 : BitVec 32 := Scalar.addi c0_i32_961 v1241
  let c1_i32_4 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v10 : BitVec 32 := Scalar.subi c1_i32_4 v5
  let c2_i32_962 : BitVec 32 := 2#32
  let v1243 : BitVec 32 := Scalar.muli v10 c2_i32_962
  let v1244 : BitVec 32 := Scalar.addi v1242 v1243
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_963 : BitVec 32 := 1#32
  let v1245 : BitVec 32 := Scalar.muli v8 c1_i32_963
  let v1246 : BitVec 32 := Scalar.addi v1244 v1245
  v1246.toNat
def k0_dev31 (d0 : Dev nD) : Nat :=
  let c0_i32_973 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_972 : BitVec 32 := 4#32
  let v1255 : BitVec 32 := Scalar.muli v2 c4_i32_972
  let v1256 : BitVec 32 := Scalar.addi c0_i32_973 v1255
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_974 : BitVec 32 := 2#32
  let v1257 : BitVec 32 := Scalar.muli v5 c2_i32_974
  let v1258 : BitVec 32 := Scalar.addi v1256 v1257
  let c1_i32_5 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v11 : BitVec 32 := Scalar.subi c1_i32_5 v8
  let c1_i32_975 : BitVec 32 := 1#32
  let v1259 : BitVec 32 := Scalar.muli v11 c1_i32_975
  let v1260 : BitVec 32 := Scalar.addi v1258 v1259
  v1260.toNat
def k0_off59 (d0 : Dev nD) : Fin 4 → Nat :=
  let c2_i32_6 : BitVec 32 := 2#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v12 : BitVec 32 := Scalar.muli c2_i32_6 v5
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v13 : BitVec 32 := Scalar.addi v12 v8
  let v1269 : Index := Scalar.indexCast v13
  let c7_980 : Index := 7#32
  let c0_981 : Index := 0#32
  let c0_982 : Index := 0#32
  ![v1269.toNat, 7, 0, 0]
def k0_off60 (d0 : Dev nD) : Fin 2 → Nat :=
  let c2_i32_9 : BitVec 32 := 2#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v17 : BitVec 32 := Scalar.muli c2_i32_9 v5
  let c1_i32_10 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v18 : BitVec 32 := Scalar.subi c1_i32_10 v8
  let v19 : BitVec 32 := Scalar.addi v17 v18
  let c0_i32_989 : BitVec 32 := 0#32
  ![v19.toNat, 0]
def k0_off61 (d0 : Dev nD) : Fin 4 → Nat :=
  let c2_i32_9 : BitVec 32 := 2#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v17 : BitVec 32 := Scalar.muli c2_i32_9 v5
  let c1_i32_10 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v18 : BitVec 32 := Scalar.subi c1_i32_10 v8
  let v19 : BitVec 32 := Scalar.addi v17 v18
  let c0_i32_988 : BitVec 32 := 0#32
  let c0_i32_995 : BitVec 32 := 0#32
  let c0_i32_996 : BitVec 32 := 0#32
  ![v19.toNat, 0, 0, 0]
def k0_off62 (d0 : Dev nD) : Fin 2 → Nat :=
  let c2_i32_8 : BitVec 32 := 2#32
  let c1_i32_7 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v14 : BitVec 32 := Scalar.subi c1_i32_7 v5
  let v15 : BitVec 32 := Scalar.muli c2_i32_8 v14
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v16 : BitVec 32 := Scalar.addi v15 v8
  let c0_i32_1001 : BitVec 32 := 0#32
  ![v16.toNat, 0]
def k0_off63 (d0 : Dev nD) : Fin 4 → Nat :=
  let c2_i32_8 : BitVec 32 := 2#32
  let c1_i32_7 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v14 : BitVec 32 := Scalar.subi c1_i32_7 v5
  let v15 : BitVec 32 := Scalar.muli c2_i32_8 v14
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v16 : BitVec 32 := Scalar.addi v15 v8
  let c0_i32_1000 : BitVec 32 := 0#32
  let c0_i32_1007 : BitVec 32 := 0#32
  let c0_i32_1008 : BitVec 32 := 0#32
  ![v16.toNat, 0, 0, 0]
def k0_off64 (d0 : Dev nD) : Fin 4 → Nat :=
  let c2_i32_9 : BitVec 32 := 2#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v17 : BitVec 32 := Scalar.muli c2_i32_9 v5
  let c1_i32_10 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v18 : BitVec 32 := Scalar.subi c1_i32_10 v8
  let v19 : BitVec 32 := Scalar.addi v17 v18
  let v1305 : Index := Scalar.indexCast v19
  let c0_1011 : Index := 0#32
  let c0_1012 : Index := 0#32
  let c0_1013 : Index := 0#32
  ![v1305.toNat, 0, 0, 0]
def k0_off65 (d0 : Dev nD) (c0_i32_1015 : BitVec 32) : Fin 2 → Nat :=
  let c0_1016 : Index := 0#32
  let c1_i32_641 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v863 : BitVec 32 := Scalar.subi c1_i32_641 v2
  let c4096_i32_642 : BitVec 32 := 4096#32
  let v864 : BitVec 32 := Scalar.muli v863 c4096_i32_642
  let c2_i32_9 : BitVec 32 := 2#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v17 : BitVec 32 := Scalar.muli c2_i32_9 v5
  let c1_i32_10 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v18 : BitVec 32 := Scalar.subi c1_i32_10 v8
  let v19 : BitVec 32 := Scalar.addi v17 v18
  let c1024_i32_1014 : BitVec 32 := 1024#32
  let v1309 : BitVec 32 := Scalar.muli v19 c1024_i32_1014
  let v1310 : BitVec 32 := Scalar.addi v864 v1309
  let v1311 : BitVec 32 := Scalar.addi v1310 c0_i32_1015
  let v1312 : Index := Scalar.indexCast v1311
  ![0, v1312.toNat]
def k0_off66 (d0 : Dev nD) : Fin 4 → Nat :=
  let c2_i32_8 : BitVec 32 := 2#32
  let c1_i32_7 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v14 : BitVec 32 := Scalar.subi c1_i32_7 v5
  let v15 : BitVec 32 := Scalar.muli c2_i32_8 v14
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v16 : BitVec 32 := Scalar.addi v15 v8
  let v1317 : Index := Scalar.indexCast v16
  let c0_1018 : Index := 0#32
  let c0_1019 : Index := 0#32
  let c0_1020 : Index := 0#32
  ![v1317.toNat, 0, 0, 0]
def k0_off67 (d0 : Dev nD) (c0_i32_1022 : BitVec 32) : Fin 2 → Nat :=
  let c0_1023 : Index := 0#32
  let c1_i32_641 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v863 : BitVec 32 := Scalar.subi c1_i32_641 v2
  let c4096_i32_642 : BitVec 32 := 4096#32
  let v864 : BitVec 32 := Scalar.muli v863 c4096_i32_642
  let c2_i32_8 : BitVec 32 := 2#32
  let c1_i32_7 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v14 : BitVec 32 := Scalar.subi c1_i32_7 v5
  let v15 : BitVec 32 := Scalar.muli c2_i32_8 v14
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v16 : BitVec 32 := Scalar.addi v15 v8
  let c1024_i32_1021 : BitVec 32 := 1024#32
  let v1321 : BitVec 32 := Scalar.muli v16 c1024_i32_1021
  let v1322 : BitVec 32 := Scalar.addi v864 v1321
  let v1323 : BitVec 32 := Scalar.addi v1322 c0_i32_1022
  let v1324 : Index := Scalar.indexCast v1323
  ![0, v1324.toNat]
def k0_off68 (d0 : Dev nD) : Fin 2 → Nat :=
  let c2_i32_9 : BitVec 32 := 2#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v17 : BitVec 32 := Scalar.muli c2_i32_9 v5
  let c1_i32_10 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v18 : BitVec 32 := Scalar.subi c1_i32_10 v8
  let v19 : BitVec 32 := Scalar.addi v17 v18
  let c1_i32_1027 : BitVec 32 := 1#32
  ![v19.toNat, 1]
def k0_off69 (d0 : Dev nD) : Fin 4 → Nat :=
  let c2_i32_9 : BitVec 32 := 2#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v17 : BitVec 32 := Scalar.muli c2_i32_9 v5
  let c1_i32_10 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v18 : BitVec 32 := Scalar.subi c1_i32_10 v8
  let v19 : BitVec 32 := Scalar.addi v17 v18
  let c1_i32_1026 : BitVec 32 := 1#32
  let c0_i32_1033 : BitVec 32 := 0#32
  let c0_i32_1034 : BitVec 32 := 0#32
  ![v19.toNat, 1, 0, 0]
def k0_off70 (d0 : Dev nD) : Fin 2 → Nat :=
  let c2_i32_8 : BitVec 32 := 2#32
  let c1_i32_7 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v14 : BitVec 32 := Scalar.subi c1_i32_7 v5
  let v15 : BitVec 32 := Scalar.muli c2_i32_8 v14
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v16 : BitVec 32 := Scalar.addi v15 v8
  let c1_i32_1039 : BitVec 32 := 1#32
  ![v16.toNat, 1]
def k0_off71 (d0 : Dev nD) : Fin 4 → Nat :=
  let c2_i32_8 : BitVec 32 := 2#32
  let c1_i32_7 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v14 : BitVec 32 := Scalar.subi c1_i32_7 v5
  let v15 : BitVec 32 := Scalar.muli c2_i32_8 v14
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v16 : BitVec 32 := Scalar.addi v15 v8
  let c1_i32_1038 : BitVec 32 := 1#32
  let c0_i32_1045 : BitVec 32 := 0#32
  let c0_i32_1046 : BitVec 32 := 0#32
  ![v16.toNat, 1, 0, 0]
def k0_off72 (d0 : Dev nD) : Fin 4 → Nat :=
  let c2_i32_9 : BitVec 32 := 2#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v17 : BitVec 32 := Scalar.muli c2_i32_9 v5
  let c1_i32_10 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v18 : BitVec 32 := Scalar.subi c1_i32_10 v8
  let v19 : BitVec 32 := Scalar.addi v17 v18
  let v1353 : Index := Scalar.indexCast v19
  let c1_1049 : Index := 1#32
  let c0_1050 : Index := 0#32
  let c0_1051 : Index := 0#32
  ![v1353.toNat, 1, 0, 0]
def k0_off73 (d0 : Dev nD) : Fin 4 → Nat :=
  let c2_i32_8 : BitVec 32 := 2#32
  let c1_i32_7 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v14 : BitVec 32 := Scalar.subi c1_i32_7 v5
  let v15 : BitVec 32 := Scalar.muli c2_i32_8 v14
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v16 : BitVec 32 := Scalar.addi v15 v8
  let v1365 : Index := Scalar.indexCast v16
  let c1_1056 : Index := 1#32
  let c0_1057 : Index := 0#32
  let c0_1058 : Index := 0#32
  ![v1365.toNat, 1, 0, 0]
def k0_off74 (d0 : Dev nD) : Fin 2 → Nat :=
  let c2_i32_9 : BitVec 32 := 2#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v17 : BitVec 32 := Scalar.muli c2_i32_9 v5
  let c1_i32_10 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v18 : BitVec 32 := Scalar.subi c1_i32_10 v8
  let v19 : BitVec 32 := Scalar.addi v17 v18
  let c2_i32_1065 : BitVec 32 := 2#32
  ![v19.toNat, 2]
def k0_off75 (d0 : Dev nD) : Fin 4 → Nat :=
  let c2_i32_9 : BitVec 32 := 2#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v17 : BitVec 32 := Scalar.muli c2_i32_9 v5
  let c1_i32_10 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v18 : BitVec 32 := Scalar.subi c1_i32_10 v8
  let v19 : BitVec 32 := Scalar.addi v17 v18
  let c2_i32_1064 : BitVec 32 := 2#32
  let c0_i32_1071 : BitVec 32 := 0#32
  let c0_i32_1072 : BitVec 32 := 0#32
  ![v19.toNat, 2, 0, 0]
def k0_off76 (d0 : Dev nD) : Fin 2 → Nat :=
  let c2_i32_8 : BitVec 32 := 2#32
  let c1_i32_7 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v14 : BitVec 32 := Scalar.subi c1_i32_7 v5
  let v15 : BitVec 32 := Scalar.muli c2_i32_8 v14
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v16 : BitVec 32 := Scalar.addi v15 v8
  let c2_i32_1077 : BitVec 32 := 2#32
  ![v16.toNat, 2]
def k0_off77 (d0 : Dev nD) : Fin 4 → Nat :=
  let c2_i32_8 : BitVec 32 := 2#32
  let c1_i32_7 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v14 : BitVec 32 := Scalar.subi c1_i32_7 v5
  let v15 : BitVec 32 := Scalar.muli c2_i32_8 v14
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v16 : BitVec 32 := Scalar.addi v15 v8
  let c2_i32_1076 : BitVec 32 := 2#32
  let c0_i32_1083 : BitVec 32 := 0#32
  let c0_i32_1084 : BitVec 32 := 0#32
  ![v16.toNat, 2, 0, 0]
def k0_off78 (d0 : Dev nD) : Fin 4 → Nat :=
  let c2_i32_9 : BitVec 32 := 2#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v17 : BitVec 32 := Scalar.muli c2_i32_9 v5
  let c1_i32_10 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v18 : BitVec 32 := Scalar.subi c1_i32_10 v8
  let v19 : BitVec 32 := Scalar.addi v17 v18
  let v1401 : Index := Scalar.indexCast v19
  let c2_1087 : Index := 2#32
  let c0_1088 : Index := 0#32
  let c0_1089 : Index := 0#32
  ![v1401.toNat, 2, 0, 0]
def k0_off79 (d0 : Dev nD) : Fin 4 → Nat :=
  let c2_i32_8 : BitVec 32 := 2#32
  let c1_i32_7 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v14 : BitVec 32 := Scalar.subi c1_i32_7 v5
  let v15 : BitVec 32 := Scalar.muli c2_i32_8 v14
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v16 : BitVec 32 := Scalar.addi v15 v8
  let v1413 : Index := Scalar.indexCast v16
  let c2_1094 : Index := 2#32
  let c0_1095 : Index := 0#32
  let c0_1096 : Index := 0#32
  ![v1413.toNat, 2, 0, 0]
def k0_off80 (d0 : Dev nD) : Fin 2 → Nat :=
  let c2_i32_9 : BitVec 32 := 2#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v17 : BitVec 32 := Scalar.muli c2_i32_9 v5
  let c1_i32_10 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v18 : BitVec 32 := Scalar.subi c1_i32_10 v8
  let v19 : BitVec 32 := Scalar.addi v17 v18
  let c3_i32_1103 : BitVec 32 := 3#32
  ![v19.toNat, 3]
def k0_off81 (d0 : Dev nD) : Fin 4 → Nat :=
  let c2_i32_9 : BitVec 32 := 2#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v17 : BitVec 32 := Scalar.muli c2_i32_9 v5
  let c1_i32_10 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v18 : BitVec 32 := Scalar.subi c1_i32_10 v8
  let v19 : BitVec 32 := Scalar.addi v17 v18
  let c3_i32_1102 : BitVec 32 := 3#32
  let c0_i32_1109 : BitVec 32 := 0#32
  let c0_i32_1110 : BitVec 32 := 0#32
  ![v19.toNat, 3, 0, 0]
def k0_off82 (d0 : Dev nD) : Fin 2 → Nat :=
  let c2_i32_8 : BitVec 32 := 2#32
  let c1_i32_7 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v14 : BitVec 32 := Scalar.subi c1_i32_7 v5
  let v15 : BitVec 32 := Scalar.muli c2_i32_8 v14
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v16 : BitVec 32 := Scalar.addi v15 v8
  let c3_i32_1115 : BitVec 32 := 3#32
  ![v16.toNat, 3]
def k0_off83 (d0 : Dev nD) : Fin 4 → Nat :=
  let c2_i32_8 : BitVec 32 := 2#32
  let c1_i32_7 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v14 : BitVec 32 := Scalar.subi c1_i32_7 v5
  let v15 : BitVec 32 := Scalar.muli c2_i32_8 v14
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v16 : BitVec 32 := Scalar.addi v15 v8
  let c3_i32_1114 : BitVec 32 := 3#32
  let c0_i32_1121 : BitVec 32 := 0#32
  let c0_i32_1122 : BitVec 32 := 0#32
  ![v16.toNat, 3, 0, 0]
def k0_off84 (d0 : Dev nD) : Fin 4 → Nat :=
  let c2_i32_9 : BitVec 32 := 2#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v17 : BitVec 32 := Scalar.muli c2_i32_9 v5
  let c1_i32_10 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v18 : BitVec 32 := Scalar.subi c1_i32_10 v8
  let v19 : BitVec 32 := Scalar.addi v17 v18
  let v1449 : Index := Scalar.indexCast v19
  let c3_1125 : Index := 3#32
  let c0_1126 : Index := 0#32
  let c0_1127 : Index := 0#32
  ![v1449.toNat, 3, 0, 0]
def k0_off85 (d0 : Dev nD) : Fin 4 → Nat :=
  let c2_i32_8 : BitVec 32 := 2#32
  let c1_i32_7 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v14 : BitVec 32 := Scalar.subi c1_i32_7 v5
  let v15 : BitVec 32 := Scalar.muli c2_i32_8 v14
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v16 : BitVec 32 := Scalar.addi v15 v8
  let v1461 : Index := Scalar.indexCast v16
  let c3_1132 : Index := 3#32
  let c0_1133 : Index := 0#32
  let c0_1134 : Index := 0#32
  ![v1461.toNat, 3, 0, 0]
def k0_off86 (d0 : Dev nD) : Fin 2 → Nat :=
  let c2_i32_9 : BitVec 32 := 2#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v17 : BitVec 32 := Scalar.muli c2_i32_9 v5
  let c1_i32_10 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v18 : BitVec 32 := Scalar.subi c1_i32_10 v8
  let v19 : BitVec 32 := Scalar.addi v17 v18
  let c4_i32_1141 : BitVec 32 := 4#32
  ![v19.toNat, 4]
def k0_off87 (d0 : Dev nD) : Fin 4 → Nat :=
  let c2_i32_9 : BitVec 32 := 2#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v17 : BitVec 32 := Scalar.muli c2_i32_9 v5
  let c1_i32_10 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v18 : BitVec 32 := Scalar.subi c1_i32_10 v8
  let v19 : BitVec 32 := Scalar.addi v17 v18
  let c4_i32_1140 : BitVec 32 := 4#32
  let c0_i32_1147 : BitVec 32 := 0#32
  let c0_i32_1148 : BitVec 32 := 0#32
  ![v19.toNat, 4, 0, 0]
def k0_dev32 (d0 : Dev nD) : Nat :=
  let c0_i32_1155 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_1154 : BitVec 32 := 4#32
  let v1485 : BitVec 32 := Scalar.muli v2 c4_i32_1154
  let v1486 : BitVec 32 := Scalar.addi c0_i32_1155 v1485
  let c1_i32_4 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v10 : BitVec 32 := Scalar.subi c1_i32_4 v5
  let c2_i32_1156 : BitVec 32 := 2#32
  let v1487 : BitVec 32 := Scalar.muli v10 c2_i32_1156
  let v1488 : BitVec 32 := Scalar.addi v1486 v1487
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_1157 : BitVec 32 := 1#32
  let v1489 : BitVec 32 := Scalar.muli v8 c1_i32_1157
  let v1490 : BitVec 32 := Scalar.addi v1488 v1489
  v1490.toNat
def k0_off88 (d0 : Dev nD) : Fin 2 → Nat :=
  let c2_i32_8 : BitVec 32 := 2#32
  let c1_i32_7 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v14 : BitVec 32 := Scalar.subi c1_i32_7 v5
  let v15 : BitVec 32 := Scalar.muli c2_i32_8 v14
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v16 : BitVec 32 := Scalar.addi v15 v8
  let c4_i32_1164 : BitVec 32 := 4#32
  ![v16.toNat, 4]
def k0_off89 (d0 : Dev nD) : Fin 4 → Nat :=
  let c2_i32_8 : BitVec 32 := 2#32
  let c1_i32_7 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v14 : BitVec 32 := Scalar.subi c1_i32_7 v5
  let v15 : BitVec 32 := Scalar.muli c2_i32_8 v14
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v16 : BitVec 32 := Scalar.addi v15 v8
  let c4_i32_1163 : BitVec 32 := 4#32
  let c0_i32_1170 : BitVec 32 := 0#32
  let c0_i32_1171 : BitVec 32 := 0#32
  ![v16.toNat, 4, 0, 0]
def k0_off90 (d0 : Dev nD) : Fin 4 → Nat :=
  let c2_i32_9 : BitVec 32 := 2#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v17 : BitVec 32 := Scalar.muli c2_i32_9 v5
  let c1_i32_10 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v18 : BitVec 32 := Scalar.subi c1_i32_10 v8
  let v19 : BitVec 32 := Scalar.addi v17 v18
  let v1511 : Index := Scalar.indexCast v19
  let c4_1174 : Index := 4#32
  let c0_1175 : Index := 0#32
  let c0_1176 : Index := 0#32
  ![v1511.toNat, 4, 0, 0]
def k0_off91 (d0 : Dev nD) : Fin 4 → Nat :=
  let c2_i32_8 : BitVec 32 := 2#32
  let c1_i32_7 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v14 : BitVec 32 := Scalar.subi c1_i32_7 v5
  let v15 : BitVec 32 := Scalar.muli c2_i32_8 v14
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v16 : BitVec 32 := Scalar.addi v15 v8
  let v1523 : Index := Scalar.indexCast v16
  let c4_1181 : Index := 4#32
  let c0_1182 : Index := 0#32
  let c0_1183 : Index := 0#32
  ![v1523.toNat, 4, 0, 0]
def k0_off92 (d0 : Dev nD) : Fin 2 → Nat :=
  let c2_i32_9 : BitVec 32 := 2#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v17 : BitVec 32 := Scalar.muli c2_i32_9 v5
  let c1_i32_10 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v18 : BitVec 32 := Scalar.subi c1_i32_10 v8
  let v19 : BitVec 32 := Scalar.addi v17 v18
  let c5_i32_1190 : BitVec 32 := 5#32
  ![v19.toNat, 5]
def k0_off93 (d0 : Dev nD) : Fin 4 → Nat :=
  let c2_i32_9 : BitVec 32 := 2#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v17 : BitVec 32 := Scalar.muli c2_i32_9 v5
  let c1_i32_10 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v18 : BitVec 32 := Scalar.subi c1_i32_10 v8
  let v19 : BitVec 32 := Scalar.addi v17 v18
  let c5_i32_1189 : BitVec 32 := 5#32
  let c0_i32_1196 : BitVec 32 := 0#32
  let c0_i32_1197 : BitVec 32 := 0#32
  ![v19.toNat, 5, 0, 0]
def k0_dev33 (d0 : Dev nD) : Nat :=
  let c0_i32_1204 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_1203 : BitVec 32 := 4#32
  let v1547 : BitVec 32 := Scalar.muli v2 c4_i32_1203
  let v1548 : BitVec 32 := Scalar.addi c0_i32_1204 v1547
  let c1_i32_4 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v10 : BitVec 32 := Scalar.subi c1_i32_4 v5
  let c2_i32_1205 : BitVec 32 := 2#32
  let v1549 : BitVec 32 := Scalar.muli v10 c2_i32_1205
  let v1550 : BitVec 32 := Scalar.addi v1548 v1549
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_1206 : BitVec 32 := 1#32
  let v1551 : BitVec 32 := Scalar.muli v8 c1_i32_1206
  let v1552 : BitVec 32 := Scalar.addi v1550 v1551
  v1552.toNat
def k0_off94 (d0 : Dev nD) : Fin 2 → Nat :=
  let c2_i32_8 : BitVec 32 := 2#32
  let c1_i32_7 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v14 : BitVec 32 := Scalar.subi c1_i32_7 v5
  let v15 : BitVec 32 := Scalar.muli c2_i32_8 v14
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v16 : BitVec 32 := Scalar.addi v15 v8
  let c5_i32_1213 : BitVec 32 := 5#32
  ![v16.toNat, 5]
def k0_off95 (d0 : Dev nD) : Fin 4 → Nat :=
  let c2_i32_8 : BitVec 32 := 2#32
  let c1_i32_7 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v14 : BitVec 32 := Scalar.subi c1_i32_7 v5
  let v15 : BitVec 32 := Scalar.muli c2_i32_8 v14
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v16 : BitVec 32 := Scalar.addi v15 v8
  let c5_i32_1212 : BitVec 32 := 5#32
  let c0_i32_1219 : BitVec 32 := 0#32
  let c0_i32_1220 : BitVec 32 := 0#32
  ![v16.toNat, 5, 0, 0]
def k0_off96 (d0 : Dev nD) : Fin 4 → Nat :=
  let c2_i32_9 : BitVec 32 := 2#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v17 : BitVec 32 := Scalar.muli c2_i32_9 v5
  let c1_i32_10 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v18 : BitVec 32 := Scalar.subi c1_i32_10 v8
  let v19 : BitVec 32 := Scalar.addi v17 v18
  let v1573 : Index := Scalar.indexCast v19
  let c5_1223 : Index := 5#32
  let c0_1224 : Index := 0#32
  let c0_1225 : Index := 0#32
  ![v1573.toNat, 5, 0, 0]
def k0_off97 (d0 : Dev nD) : Fin 4 → Nat :=
  let c2_i32_8 : BitVec 32 := 2#32
  let c1_i32_7 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v14 : BitVec 32 := Scalar.subi c1_i32_7 v5
  let v15 : BitVec 32 := Scalar.muli c2_i32_8 v14
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v16 : BitVec 32 := Scalar.addi v15 v8
  let v1585 : Index := Scalar.indexCast v16
  let c5_1230 : Index := 5#32
  let c0_1231 : Index := 0#32
  let c0_1232 : Index := 0#32
  ![v1585.toNat, 5, 0, 0]
def k0_off98 (d0 : Dev nD) : Fin 2 → Nat :=
  let c2_i32_9 : BitVec 32 := 2#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v17 : BitVec 32 := Scalar.muli c2_i32_9 v5
  let c1_i32_10 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v18 : BitVec 32 := Scalar.subi c1_i32_10 v8
  let v19 : BitVec 32 := Scalar.addi v17 v18
  let c6_i32_1239 : BitVec 32 := 6#32
  ![v19.toNat, 6]
def k0_off99 (d0 : Dev nD) : Fin 4 → Nat :=
  let c2_i32_9 : BitVec 32 := 2#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v17 : BitVec 32 := Scalar.muli c2_i32_9 v5
  let c1_i32_10 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v18 : BitVec 32 := Scalar.subi c1_i32_10 v8
  let v19 : BitVec 32 := Scalar.addi v17 v18
  let c6_i32_1238 : BitVec 32 := 6#32
  let c0_i32_1245 : BitVec 32 := 0#32
  let c0_i32_1246 : BitVec 32 := 0#32
  ![v19.toNat, 6, 0, 0]
def k0_off100 (d0 : Dev nD) : Fin 2 → Nat :=
  let c2_i32_8 : BitVec 32 := 2#32
  let c1_i32_7 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v14 : BitVec 32 := Scalar.subi c1_i32_7 v5
  let v15 : BitVec 32 := Scalar.muli c2_i32_8 v14
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v16 : BitVec 32 := Scalar.addi v15 v8
  let c6_i32_1251 : BitVec 32 := 6#32
  ![v16.toNat, 6]
def k0_off101 (d0 : Dev nD) : Fin 4 → Nat :=
  let c2_i32_8 : BitVec 32 := 2#32
  let c1_i32_7 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v14 : BitVec 32 := Scalar.subi c1_i32_7 v5
  let v15 : BitVec 32 := Scalar.muli c2_i32_8 v14
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v16 : BitVec 32 := Scalar.addi v15 v8
  let c6_i32_1250 : BitVec 32 := 6#32
  let c0_i32_1257 : BitVec 32 := 0#32
  let c0_i32_1258 : BitVec 32 := 0#32
  ![v16.toNat, 6, 0, 0]
def k0_dev34 (d0 : Dev nD) : Nat :=
  let c0_i32_1266 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_1265 : BitVec 32 := 4#32
  let v1621 : BitVec 32 := Scalar.muli v2 c4_i32_1265
  let v1622 : BitVec 32 := Scalar.addi c0_i32_1266 v1621
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_1267 : BitVec 32 := 2#32
  let v1623 : BitVec 32 := Scalar.muli v5 c2_i32_1267
  let v1624 : BitVec 32 := Scalar.addi v1622 v1623
  let c1_i32_5 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v11 : BitVec 32 := Scalar.subi c1_i32_5 v8
  let c1_i32_1268 : BitVec 32 := 1#32
  let v1625 : BitVec 32 := Scalar.muli v11 c1_i32_1268
  let v1626 : BitVec 32 := Scalar.addi v1624 v1625
  v1626.toNat
def k0_off102 (d0 : Dev nD) : Fin 4 → Nat :=
  let c2_i32_9 : BitVec 32 := 2#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v17 : BitVec 32 := Scalar.muli c2_i32_9 v5
  let c1_i32_10 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v18 : BitVec 32 := Scalar.subi c1_i32_10 v8
  let v19 : BitVec 32 := Scalar.addi v17 v18
  let v1635 : Index := Scalar.indexCast v19
  let c6_1273 : Index := 6#32
  let c0_1274 : Index := 0#32
  let c0_1275 : Index := 0#32
  ![v1635.toNat, 6, 0, 0]
def k0_off103 (d0 : Dev nD) : Fin 4 → Nat :=
  let c2_i32_8 : BitVec 32 := 2#32
  let c1_i32_7 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v14 : BitVec 32 := Scalar.subi c1_i32_7 v5
  let v15 : BitVec 32 := Scalar.muli c2_i32_8 v14
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v16 : BitVec 32 := Scalar.addi v15 v8
  let v1647 : Index := Scalar.indexCast v16
  let c6_1280 : Index := 6#32
  let c0_1281 : Index := 0#32
  let c0_1282 : Index := 0#32
  ![v1647.toNat, 6, 0, 0]
def k0_off104 (d0 : Dev nD) : Fin 2 → Nat :=
  let c2_i32_9 : BitVec 32 := 2#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v17 : BitVec 32 := Scalar.muli c2_i32_9 v5
  let c1_i32_10 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v18 : BitVec 32 := Scalar.subi c1_i32_10 v8
  let v19 : BitVec 32 := Scalar.addi v17 v18
  let c7_i32_1289 : BitVec 32 := 7#32
  ![v19.toNat, 7]
def k0_off105 (d0 : Dev nD) : Fin 4 → Nat :=
  let c2_i32_9 : BitVec 32 := 2#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v17 : BitVec 32 := Scalar.muli c2_i32_9 v5
  let c1_i32_10 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v18 : BitVec 32 := Scalar.subi c1_i32_10 v8
  let v19 : BitVec 32 := Scalar.addi v17 v18
  let c7_i32_1288 : BitVec 32 := 7#32
  let c0_i32_1295 : BitVec 32 := 0#32
  let c0_i32_1296 : BitVec 32 := 0#32
  ![v19.toNat, 7, 0, 0]
def k0_off106 (d0 : Dev nD) : Fin 2 → Nat :=
  let c2_i32_8 : BitVec 32 := 2#32
  let c1_i32_7 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v14 : BitVec 32 := Scalar.subi c1_i32_7 v5
  let v15 : BitVec 32 := Scalar.muli c2_i32_8 v14
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v16 : BitVec 32 := Scalar.addi v15 v8
  let c7_i32_1301 : BitVec 32 := 7#32
  ![v16.toNat, 7]
def k0_off107 (d0 : Dev nD) : Fin 4 → Nat :=
  let c2_i32_8 : BitVec 32 := 2#32
  let c1_i32_7 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v14 : BitVec 32 := Scalar.subi c1_i32_7 v5
  let v15 : BitVec 32 := Scalar.muli c2_i32_8 v14
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v16 : BitVec 32 := Scalar.addi v15 v8
  let c7_i32_1300 : BitVec 32 := 7#32
  let c0_i32_1307 : BitVec 32 := 0#32
  let c0_i32_1308 : BitVec 32 := 0#32
  ![v16.toNat, 7, 0, 0]
def k0_dev35 (d0 : Dev nD) : Nat :=
  let c0_i32_1316 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_1315 : BitVec 32 := 4#32
  let v1683 : BitVec 32 := Scalar.muli v2 c4_i32_1315
  let v1684 : BitVec 32 := Scalar.addi c0_i32_1316 v1683
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_1317 : BitVec 32 := 2#32
  let v1685 : BitVec 32 := Scalar.muli v5 c2_i32_1317
  let v1686 : BitVec 32 := Scalar.addi v1684 v1685
  let c1_i32_5 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v11 : BitVec 32 := Scalar.subi c1_i32_5 v8
  let c1_i32_1318 : BitVec 32 := 1#32
  let v1687 : BitVec 32 := Scalar.muli v11 c1_i32_1318
  let v1688 : BitVec 32 := Scalar.addi v1686 v1687
  v1688.toNat
def k0_off108 (d0 : Dev nD) : Fin 4 → Nat :=
  let c2_i32_9 : BitVec 32 := 2#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v17 : BitVec 32 := Scalar.muli c2_i32_9 v5
  let c1_i32_10 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v18 : BitVec 32 := Scalar.subi c1_i32_10 v8
  let v19 : BitVec 32 := Scalar.addi v17 v18
  let v1697 : Index := Scalar.indexCast v19
  let c7_1323 : Index := 7#32
  let c0_1324 : Index := 0#32
  let c0_1325 : Index := 0#32
  ![v1697.toNat, 7, 0, 0]
def k0_off109 (d0 : Dev nD) : Fin 4 → Nat :=
  let c2_i32_8 : BitVec 32 := 2#32
  let c1_i32_7 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v14 : BitVec 32 := Scalar.subi c1_i32_7 v5
  let v15 : BitVec 32 := Scalar.muli c2_i32_8 v14
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v16 : BitVec 32 := Scalar.addi v15 v8
  let v1709 : Index := Scalar.indexCast v16
  let c7_1330 : Index := 7#32
  let c0_1331 : Index := 0#32
  let c0_1332 : Index := 0#32
  ![v1709.toNat, 7, 0, 0]
def k0_off110 (d0 : Dev nD) : Fin 4 → Nat :=
  let c2_i32_12 : BitVec 32 := 2#32
  let c1_i32_11 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v20 : BitVec 32 := Scalar.subi c1_i32_11 v5
  let v21 : BitVec 32 := Scalar.muli c2_i32_12 v20
  let c1_i32_13 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v22 : BitVec 32 := Scalar.subi c1_i32_13 v8
  let v23 : BitVec 32 := Scalar.addi v21 v22
  let v1733 : Index := Scalar.indexCast v23
  let c0_1349 : Index := 0#32
  let c0_1350 : Index := 0#32
  let c0_1351 : Index := 0#32
  ![v1733.toNat, 0, 0, 0]
def k0_off111 (d0 : Dev nD) (c0_i32_1353 : BitVec 32) : Fin 2 → Nat :=
  let c0_1354 : Index := 0#32
  let c1_i32_641 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v863 : BitVec 32 := Scalar.subi c1_i32_641 v2
  let c4096_i32_642 : BitVec 32 := 4096#32
  let v864 : BitVec 32 := Scalar.muli v863 c4096_i32_642
  let c2_i32_12 : BitVec 32 := 2#32
  let c1_i32_11 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v20 : BitVec 32 := Scalar.subi c1_i32_11 v5
  let v21 : BitVec 32 := Scalar.muli c2_i32_12 v20
  let c1_i32_13 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v22 : BitVec 32 := Scalar.subi c1_i32_13 v8
  let v23 : BitVec 32 := Scalar.addi v21 v22
  let c1024_i32_1352 : BitVec 32 := 1024#32
  let v1737 : BitVec 32 := Scalar.muli v23 c1024_i32_1352
  let v1738 : BitVec 32 := Scalar.addi v864 v1737
  let v1739 : BitVec 32 := Scalar.addi v1738 c0_i32_1353
  let v1740 : Index := Scalar.indexCast v1739
  ![0, v1740.toNat]
def k0_off112 (d0 : Dev nD) : Fin 4 → Nat :=
  let c2_i32_12 : BitVec 32 := 2#32
  let c1_i32_11 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v20 : BitVec 32 := Scalar.subi c1_i32_11 v5
  let v21 : BitVec 32 := Scalar.muli c2_i32_12 v20
  let c1_i32_13 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v22 : BitVec 32 := Scalar.subi c1_i32_13 v8
  let v23 : BitVec 32 := Scalar.addi v21 v22
  let v1757 : Index := Scalar.indexCast v23
  let c1_1368 : Index := 1#32
  let c0_1369 : Index := 0#32
  let c0_1370 : Index := 0#32
  ![v1757.toNat, 1, 0, 0]
def k0_off113 (d0 : Dev nD) : Fin 4 → Nat :=
  let c2_i32_12 : BitVec 32 := 2#32
  let c1_i32_11 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v20 : BitVec 32 := Scalar.subi c1_i32_11 v5
  let v21 : BitVec 32 := Scalar.muli c2_i32_12 v20
  let c1_i32_13 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v22 : BitVec 32 := Scalar.subi c1_i32_13 v8
  let v23 : BitVec 32 := Scalar.addi v21 v22
  let v1781 : Index := Scalar.indexCast v23
  let c2_1387 : Index := 2#32
  let c0_1388 : Index := 0#32
  let c0_1389 : Index := 0#32
  ![v1781.toNat, 2, 0, 0]
def k0_off114 (d0 : Dev nD) : Fin 4 → Nat :=
  let c2_i32_12 : BitVec 32 := 2#32
  let c1_i32_11 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v20 : BitVec 32 := Scalar.subi c1_i32_11 v5
  let v21 : BitVec 32 := Scalar.muli c2_i32_12 v20
  let c1_i32_13 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v22 : BitVec 32 := Scalar.subi c1_i32_13 v8
  let v23 : BitVec 32 := Scalar.addi v21 v22
  let v1805 : Index := Scalar.indexCast v23
  let c3_1406 : Index := 3#32
  let c0_1407 : Index := 0#32
  let c0_1408 : Index := 0#32
  ![v1805.toNat, 3, 0, 0]
def k0_off115 (d0 : Dev nD) : Fin 2 → Nat :=
  let c2_i32_12 : BitVec 32 := 2#32
  let c1_i32_11 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v20 : BitVec 32 := Scalar.subi c1_i32_11 v5
  let v21 : BitVec 32 := Scalar.muli c2_i32_12 v20
  let c1_i32_13 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v22 : BitVec 32 := Scalar.subi c1_i32_13 v8
  let v23 : BitVec 32 := Scalar.addi v21 v22
  let c4_i32_1415 : BitVec 32 := 4#32
  ![v23.toNat, 4]
def k0_off116 (d0 : Dev nD) : Fin 4 → Nat :=
  let c2_i32_12 : BitVec 32 := 2#32
  let c1_i32_11 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v20 : BitVec 32 := Scalar.subi c1_i32_11 v5
  let v21 : BitVec 32 := Scalar.muli c2_i32_12 v20
  let c1_i32_13 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v22 : BitVec 32 := Scalar.subi c1_i32_13 v8
  let v23 : BitVec 32 := Scalar.addi v21 v22
  let c4_i32_1414 : BitVec 32 := 4#32
  let c0_i32_1421 : BitVec 32 := 0#32
  let c0_i32_1422 : BitVec 32 := 0#32
  ![v23.toNat, 4, 0, 0]
def k0_off117 (d0 : Dev nD) : Fin 4 → Nat :=
  let c2_i32_12 : BitVec 32 := 2#32
  let c1_i32_11 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v20 : BitVec 32 := Scalar.subi c1_i32_11 v5
  let v21 : BitVec 32 := Scalar.muli c2_i32_12 v20
  let c1_i32_13 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v22 : BitVec 32 := Scalar.subi c1_i32_13 v8
  let v23 : BitVec 32 := Scalar.addi v21 v22
  let v1829 : Index := Scalar.indexCast v23
  let c4_1425 : Index := 4#32
  let c0_1426 : Index := 0#32
  let c0_1427 : Index := 0#32
  ![v1829.toNat, 4, 0, 0]
def k0_off118 (d0 : Dev nD) : Fin 2 → Nat :=
  let c2_i32_12 : BitVec 32 := 2#32
  let c1_i32_11 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v20 : BitVec 32 := Scalar.subi c1_i32_11 v5
  let v21 : BitVec 32 := Scalar.muli c2_i32_12 v20
  let c1_i32_13 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v22 : BitVec 32 := Scalar.subi c1_i32_13 v8
  let v23 : BitVec 32 := Scalar.addi v21 v22
  let c5_i32_1434 : BitVec 32 := 5#32
  ![v23.toNat, 5]
def k0_off119 (d0 : Dev nD) : Fin 4 → Nat :=
  let c2_i32_12 : BitVec 32 := 2#32
  let c1_i32_11 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v20 : BitVec 32 := Scalar.subi c1_i32_11 v5
  let v21 : BitVec 32 := Scalar.muli c2_i32_12 v20
  let c1_i32_13 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v22 : BitVec 32 := Scalar.subi c1_i32_13 v8
  let v23 : BitVec 32 := Scalar.addi v21 v22
  let c5_i32_1433 : BitVec 32 := 5#32
  let c0_i32_1440 : BitVec 32 := 0#32
  let c0_i32_1441 : BitVec 32 := 0#32
  ![v23.toNat, 5, 0, 0]
def k0_off120 (d0 : Dev nD) : Fin 4 → Nat :=
  let c2_i32_12 : BitVec 32 := 2#32
  let c1_i32_11 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v20 : BitVec 32 := Scalar.subi c1_i32_11 v5
  let v21 : BitVec 32 := Scalar.muli c2_i32_12 v20
  let c1_i32_13 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v22 : BitVec 32 := Scalar.subi c1_i32_13 v8
  let v23 : BitVec 32 := Scalar.addi v21 v22
  let v1853 : Index := Scalar.indexCast v23
  let c5_1444 : Index := 5#32
  let c0_1445 : Index := 0#32
  let c0_1446 : Index := 0#32
  ![v1853.toNat, 5, 0, 0]
def k0_off121 (d0 : Dev nD) : Fin 2 → Nat :=
  let c2_i32_12 : BitVec 32 := 2#32
  let c1_i32_11 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v20 : BitVec 32 := Scalar.subi c1_i32_11 v5
  let v21 : BitVec 32 := Scalar.muli c2_i32_12 v20
  let c1_i32_13 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v22 : BitVec 32 := Scalar.subi c1_i32_13 v8
  let v23 : BitVec 32 := Scalar.addi v21 v22
  let c6_i32_1453 : BitVec 32 := 6#32
  ![v23.toNat, 6]
def k0_off122 (d0 : Dev nD) : Fin 4 → Nat :=
  let c2_i32_12 : BitVec 32 := 2#32
  let c1_i32_11 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v20 : BitVec 32 := Scalar.subi c1_i32_11 v5
  let v21 : BitVec 32 := Scalar.muli c2_i32_12 v20
  let c1_i32_13 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v22 : BitVec 32 := Scalar.subi c1_i32_13 v8
  let v23 : BitVec 32 := Scalar.addi v21 v22
  let c6_i32_1452 : BitVec 32 := 6#32
  let c0_i32_1459 : BitVec 32 := 0#32
  let c0_i32_1460 : BitVec 32 := 0#32
  ![v23.toNat, 6, 0, 0]
def k0_off123 (d0 : Dev nD) : Fin 4 → Nat :=
  let c2_i32_12 : BitVec 32 := 2#32
  let c1_i32_11 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v20 : BitVec 32 := Scalar.subi c1_i32_11 v5
  let v21 : BitVec 32 := Scalar.muli c2_i32_12 v20
  let c1_i32_13 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v22 : BitVec 32 := Scalar.subi c1_i32_13 v8
  let v23 : BitVec 32 := Scalar.addi v21 v22
  let v1877 : Index := Scalar.indexCast v23
  let c6_1463 : Index := 6#32
  let c0_1464 : Index := 0#32
  let c0_1465 : Index := 0#32
  ![v1877.toNat, 6, 0, 0]
def k0_off124 (d0 : Dev nD) : Fin 2 → Nat :=
  let c2_i32_12 : BitVec 32 := 2#32
  let c1_i32_11 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v20 : BitVec 32 := Scalar.subi c1_i32_11 v5
  let v21 : BitVec 32 := Scalar.muli c2_i32_12 v20
  let c1_i32_13 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v22 : BitVec 32 := Scalar.subi c1_i32_13 v8
  let v23 : BitVec 32 := Scalar.addi v21 v22
  let c7_i32_1472 : BitVec 32 := 7#32
  ![v23.toNat, 7]
def k0_off125 (d0 : Dev nD) : Fin 4 → Nat :=
  let c2_i32_12 : BitVec 32 := 2#32
  let c1_i32_11 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v20 : BitVec 32 := Scalar.subi c1_i32_11 v5
  let v21 : BitVec 32 := Scalar.muli c2_i32_12 v20
  let c1_i32_13 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v22 : BitVec 32 := Scalar.subi c1_i32_13 v8
  let v23 : BitVec 32 := Scalar.addi v21 v22
  let c7_i32_1471 : BitVec 32 := 7#32
  let c0_i32_1478 : BitVec 32 := 0#32
  let c0_i32_1479 : BitVec 32 := 0#32
  ![v23.toNat, 7, 0, 0]
def k0_off126 (d0 : Dev nD) : Fin 4 → Nat :=
  let c2_i32_12 : BitVec 32 := 2#32
  let c1_i32_11 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v20 : BitVec 32 := Scalar.subi c1_i32_11 v5
  let v21 : BitVec 32 := Scalar.muli c2_i32_12 v20
  let c1_i32_13 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v22 : BitVec 32 := Scalar.subi c1_i32_13 v8
  let v23 : BitVec 32 := Scalar.addi v21 v22
  let v1901 : Index := Scalar.indexCast v23
  let c7_1482 : Index := 7#32
  let c0_1483 : Index := 0#32
  let c0_1484 : Index := 0#32
  ![v1901.toNat, 7, 0, 0]
abbrev stage0_0 : Fin 1 → Memref sig .tc .vmem S256x512 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S512x4096 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S256x8192 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
-- ==== ReferenceIdeal.lean ====
abbrev S256x512 : Shape := ⟨2, ![256, 512]⟩
abbrev S512x8192 : Shape := ⟨2, ![512, 8192]⟩
abbrev S256x8192 : Shape := ⟨2, ![256, 8192]⟩
abbrev S_ : Shape := ⟨0, ![]⟩
abbrev S256 : Shape := ⟨1, ![256]⟩
abbrev S256x1 : Shape := ⟨2, ![256, 1]⟩

abbrev nBuf : Space → Nat
  | .hbm => 14
  | .vmem => 0
  | .smem => 0
  | _ => 0

abbrev bufTy : (tb : Table) → Fin (tcTables nBuf tb) → BufTy
  | .hbm, ⟨0, _⟩ => ⟨S256x512, .f32⟩
  | .hbm, ⟨1, _⟩ => ⟨S512x8192, .f32⟩
  | .hbm, ⟨2, _⟩ => ⟨S256x8192, .f32⟩
  | .hbm, ⟨3, _⟩ => ⟨S_, .f32⟩
  | .hbm, ⟨4, _⟩ => ⟨S256, .f32⟩
  | .hbm, ⟨5, _⟩ => ⟨S256x1, .f32⟩
  | .hbm, ⟨6, _⟩ => ⟨S256x8192, .f32⟩
  | .hbm, ⟨7, _⟩ => ⟨S256x8192, .f32⟩
  | .hbm, ⟨8, _⟩ => ⟨S256x8192, .f32⟩
  | .hbm, ⟨9, _⟩ => ⟨S_, .f32⟩
  | .hbm, ⟨10, _⟩ => ⟨S256, .f32⟩
  | .hbm, ⟨11, _⟩ => ⟨S256x1, .f32⟩
  | .hbm, ⟨12, _⟩ => ⟨S256x8192, .f32⟩
  | .hbm, ⟨13, _⟩ => ⟨S256x8192, .f32⟩
  | _, _ => ⟨S256x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_cst_0 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩

abbrev nD : Nat := 1
abbrev τ : Topo := Topo.v7x

variable {F : FTy → Type} [FloatOps F]
-- ==== Proof.KernelIdealBody.lean ====
/- The kernel body of version v06, written as loops over tiles. -/
module

public import proofs.«01_k».proof.Proof.Gen.KernelIdeal.Skeleton
public import proofs.«01_k».proof.Proof.Gen.KernelIdeal.Frame

@[expose] public section

noncomputable section

namespace Cert.KernelIdeal.Softmax

open Idealize.ShloMosaic Idealize.ShloMosaic.TcCoe
open Idealize.SL Idealize.SL.Sem
open Cert.KernelIdeal Cert.KernelIdeal.Gen

variable {F : FTy → Type} [FloatOps F]

/-- A program of the kernel's body. -/
abbrev BP (F : FTy → Type) [FloatOps F] (α : Type) : Type 1 := Prog (TpuEff nD τ sig (Elt F) Λ₀ .tc) α

/-- The three axes of the mesh. -/
inductive Ax | x | y | z
  deriving DecidableEq

/-- The three axes are all there are. -/
instance : Fintype Ax := ⟨{.x, .y, .z}, fun a => by cases a <;> decide⟩

/-- The neighbour of `d` along an axis of the 2×2×2 mesh. -/
def peer (a : Ax) (d : Dev nD) : Dev nD :=
  match a with
  | .x => ⟨(d.val + 4) % 8, Nat.mod_lt _ (by decide)⟩
  | .y => ⟨4 * (d.val / 4) + 2 * ((d.val / 2 + 1) % 2) + d.val % 2, by have := d.isLt; change _ < 8; change d.val < 8 at this; omega⟩
  | .z => ⟨2 * (d.val / 2) + (d.val + 1) % 2, by have := d.isLt; change _ < 8; change d.val < 8 at this; omega⟩

/-- The bitwise exclusive or on the four parts. -/
def xorP (p q : Fin 4) : Fin 4 :=
  ⟨2 * ((p.val / 2 + q.val / 2) % 2) + (p.val + q.val) % 2, by omega⟩

/-- The part of its half that device `d` sends whole over the x axis: its place in the yz plane. -/
def home (d : Dev nD) : Fin 4 := ⟨d.val % 4, Nat.mod_lt _ (by decide)⟩

/-- The part a device-relative part names: relative part 0 is the device's own. -/
def absP (d : Dev nD) (q : Fin 4) : Fin 4 := xorP (home d) q

/-- A tile: a part (relative to a device) and a chunk of it. -/
abbrev Slot : Type := Fin 4 × Fin 8

/-- The axis along which a device's receive tile is filled: relative part 0 over x, 2 over y, 1 over z, and
    the diagonal part 3 over x (chunks 0–3), y (chunks 4, 5) and z (chunks 6, 7). -/
def ax (r : Slot) : Ax :=
  match r.1 with
  | 0 => .x
  | 1 => .z
  | 2 => .y
  | 3 => if r.2.val < 4 then .x else if r.2.val < 6 then .y else .z

/-- How far apart the homes of two neighbours along an axis are. -/
def δ (a : Ax) : Fin 4 := match a with | .x => 0 | .y => 2 | .z => 1

/-- The sender's name of the tile its neighbour calls `r`. -/
def src (r : Slot) : Slot := (xorP r.1 (δ (ax r)), r.2)

/-- The view of tile `(p, k)` of a buffer of 4×8 tiles. -/
theorem tile_inb (p : Fin 4) (k : Fin 8) : ∀ a, (![p.val, k.val, 0, 0] : Fin 4 → ℕ) a + S1x1x256x128.size a ≤ S4x8x256x128.size a := by
  revert p k; decide

/-- The block of a tiled buffer that is tile `(p, k)`. -/
abbrev tileRect (p : Fin 4) (k : Fin 8) : Rect S4x8x256x128 :=
  Rect.unit (s := S4x8x256x128) ![p.val, k.val, 0, 0] S1x1x256x128.size (tile_inb p k)

/-- The kernel's own logits buffer. -/
abbrev lM : Memref sig .tc .vmem S4x8x256x128 .f32 := Memref.whole cc0_scratch0
/-- The receive buffer. -/
abbrev rM : Memref sig .tc .vmem S4x8x256x128 .f32 := Memref.whole cc0_scratch1
/-- The staging buffer of x. -/
abbrev xM : Memref sig .tc .vmem S256x512 .f32 := Memref.whole cc0_stg0_0
/-- The staging buffer of W. -/
abbrev wM : Memref sig .tc .vmem S512x4096 .f32 := Memref.whole cc0_stg1_0
/-- The staging buffer of the result. -/
abbrev oM : Memref sig .tc .vmem S256x8192 .f32 := Memref.whole cc0_stg2_0

/-- Tile `(p, k)` of a tiled buffer as a 256×128 view. -/
abbrev tileM (M : Memref sig .tc .vmem S4x8x256x128 .f32) (p : Fin 4) (k : Fin 8) : Memref sig .tc .vmem S256x128 .f32 :=
  (M.slice (tileRect p k) (fun _ => rfl)).squeeze S256x128 squeezes_S1x1x256x128_S256x128

/-- The receive semaphore of tile `(p, k)`. -/
def recvSem (p : Fin 4) (k : Fin 8) : DmaSem sig := ⟨35 + 8 * p.val + k.val, by change _ < 67; omega⟩

/-- The send semaphore of the copy into the tile the neighbour calls `r`. -/
def sendSem (r : Slot) : DmaSem sig :=
  match r.1 with
  | 0 => ⟨3 + r.2.val, by change _ < 67; omega⟩
  | 1 => ⟨25 + r.2.val, by change _ < 67; omega⟩
  | 2 => ⟨15 + r.2.val, by change _ < 67; omega⟩
  | 3 => if h : r.2.val < 4 then ⟨11 + r.2.val, by change _ < 67; omega⟩
         else if h : r.2.val < 6 then ⟨23 + (r.2.val - 4), by change _ < 67; omega⟩
         else ⟨33 + (r.2.val - 6), by change _ < 67; omega⟩

/-- The barrier semaphore. -/
def barSem : Sem sig := barrier0

/-- The buffer a copy into tile `r` of the neighbour reads: the logits buffer over x, else the receive buffer. -/
def srcM (r : Slot) : Memref sig .tc .vmem S4x8x256x128 .f32 :=
  match ax r with | .x => lM | _ => rM

/-- The columns of W that tile `(p, k)` reads lie inside W. -/
theorem col_inb (p : Fin 4) (k : Fin 8) : ∀ a, (![0, 1024 * p.val + 128 * k.val] : Fin 2 → ℕ) a + S512x128.size a ≤ S512x4096.size a := by
  revert p k; decide

/-- The columns of the result of tile `(p, k)` of half `h` lie inside the result. -/
theorem out_inb (h : Fin 2) (p : Fin 4) (k : Fin 8) :
    ∀ a, (![0, 4096 * h.val + 1024 * p.val + 128 * k.val] : Fin 2 → ℕ) a + S256x128.size a ≤ S256x8192.size a := by
  revert h p k; decide

/-- The column block of W that tile `(p, k)` reads. -/
abbrev colRect (p : Fin 4) (k : Fin 8) : Rect S512x4096 :=
  Rect.unit (s := S512x4096) ![0, 1024 * p.val + 128 * k.val] S512x128.size (col_inb p k)
/-- The block of the result that tile `(p, k)` of half `h` fills. -/
abbrev outRect (h : Fin 2) (p : Fin 4) (k : Fin 8) : Rect S256x8192 :=
  Rect.unit (s := S256x8192) ![0, 4096 * h.val + 1024 * p.val + 128 * k.val] S256x128.size (out_inb h p k)

/-- The half of the columns device `d` computes. -/
def own (d : Dev nD) : Fin 2 := ⟨d.val / 4, by have := d.isLt; change d.val < 8 at this; omega⟩
/-- The half of the columns device `d` receives. -/
def other (d : Dev nD) : Fin 2 := ⟨1 - d.val / 4, by omega⟩

/-- A tile of logits: the product of x and a column block of W. -/
def mmPay (x : Vec F S256x512 .f32) (w : Vec F S512x128 .f32) : FVec F S1x1x256x128 .f32 :=
  shapeCast S1x1x256x128 (matmul dot_S256x512_S512x128_S256x128_1_0_0_1_n_n none
    (shapeCast S256x512 x shapeCasts_S256x512_S256x512) (shapeCast S512x128 w shapeCasts_S512x128_S512x128)
    (constant S256x128 .f32 0x00000000#32)) shapeCasts_S256x128_S1x1x256x128
/-- The exponentials of a tile of logits. -/
def expPay (l : Vec F S1x1x256x128 .f32) : FVec F S256x128 .f32 :=
  exp (shapeCast S256x128 l shapeCasts_S1x1x256x128_S256x128)
/-- The running row sums with those of one more tile. -/
def sumPay (s : FVec F S256x1 .f32) (l : Vec F S1x1x256x128 .f32) : FVec F S256x1 .f32 :=
  addf s (shapeCast S256x1 (multiReduction .add [1] S256 (expPay l) 0x00000000#32 reduces_S256x128_S256 (.inl rfl) rfl) shapeCasts_S256_S256x1)
/-- The row sums at the start: zero. -/
def zeroPay : FVec F S256x1 .f32 := broadcast S256x1 (Scalar.ofBits .f32 0x00000000#32)

/-- Folds a program over a list. -/
def foldP {S ι : Type} (f : S → ι → BP F S) : S → List ι → BP F S
  | s, [] => .ret s
  | s, i :: l => (f s i).bind fun s' => foldP f s' l

/-- One tile of logits. -/
def mmOp (d : Dev nD) (x : Vec F S256x512 .f32) (r : Slot) : BP F PUnit := do
  let w ← Prog.lift (.load wM (colRect (absP d r.1) r.2).toLoadRect (View.loadsAt_vmem h_S512x128))
  let _ ← Prog.lift (.load lM (tileRect (absP d r.1) r.2).toLoadRect (View.loadsAt_vmem h_S1x1x256x128))
  Prog.lift (.store lM (tileRect (absP d r.1) r.2) (mmPay x w) Finset.univ (View.stores_vmem_bits_univ h_S1x1x256x128 rfl) (.inl rfl))

/-- The copy into the tile the neighbour calls `r`. -/
def sendOp (d : Dev nD) (r : Slot) : BP F PUnit :=
  Prog.lift (.enqueueDma (tileM (srcM r) (absP d (src r).1) r.2)
    (.remote (Dev.tc (peer (ax r) d)) (tileM rM (absP d (src r).1) r.2) (.dma (sendSem r)))
    (.dma (recvSem (absP d (src r).1) r.2)) ((View.wordExact_bits rfl).reshape _ _) ((View.wordExact_bits rfl).reshape _ _) ⟨⟨rfl, Or.inl rfl⟩, trivial⟩)

/-- The wait for the arrival of tile `r`. -/
def recvOp (d : Dev nD) (r : Slot) : BP F PUnit :=
  Prog.lift (.waitDma2 (recvSem (absP d r.1) r.2) (tileM rM (absP d r.1) r.2) (tileM rM (absP d r.1) r.2)
    ((View.wordExact_bits rfl).reshape _ _) ((View.wordExact_bits rfl).reshape _ _))

/-- The wait for the completion of the copy into the neighbour's tile `r`. -/
def doneOp (d : Dev nD) (r : Slot) : BP F PUnit :=
  Prog.lift (.waitDma2 (sendSem r) (tileM rM (absP d (src r).1) r.2) (tileM (srcM r) (absP d (src r).1) r.2)
    ((View.wordExact_bits rfl).reshape _ _) ((View.wordExact_bits rfl).reshape _ _))

/-- The use of one tile of logits: its exponentials into the result, their row sums to the running ones. -/
def useOp (M : Memref sig .tc .vmem S4x8x256x128 .f32) (h : Fin 2) (d : Dev nD) (s : FVec F S256x1 .f32) (r : Slot) : BP F (FVec F S256x1 .f32) := do
  let l ← Prog.lift (.load M (tileRect (absP d r.1) r.2).toLoadRect (View.loadsAt_vmem h_S1x1x256x128))
  let _ ← Prog.lift (.load oM (outRect h (absP d r.1) r.2).toLoadRect (View.loadsAt_vmem h_S256x128))
  Prog.lift (.store oM (outRect h (absP d r.1) r.2) (expPay l) Finset.univ (View.stores_vmem_bits_univ h_S256x128 rfl) (.inl rfl))
  pure (sumPay s l)

/-- The chunks of a part. -/
def chunks : List (Fin 8) := [0, 1, 2, 3, 4, 5, 6, 7]
/-- The tiles of the parts of a list. -/
def tiles (l : List (Fin 4)) : List Slot := l.flatMap fun q => chunks.map fun k => (q, k)

/-- The rest of the parts in the order the products are taken: the home part's successors, cyclically. -/
def later (d : Dev nD) : List (Fin 4) := [1, 2, 3].map fun j => xorP (home d) (home d + j)
/-- The parts in their order, by their relative names. -/
def inOrder (d : Dev nD) : List (Fin 4) := [0, 1, 2, 3].map fun p => xorP (home d) p

/-- The body after the device's identity. -/
def body' (d : Dev nD) : BP F PUnit := do
  semSignalWord (peer .x d) barSem 1#32
  semSignalWord (peer .y d) barSem 1#32
  semSignalWord (peer .z d) barSem 1#32
  semWaitWord barSem 3#32
  let x ← Prog.lift (.load xM (Rect.unit (s := S256x512) ![0, 0] S256x512.size inb_S256x512_S256x512_0_0).toLoadRect (View.loadsAt_vmem h_S256x512))
  foldP (fun _ k => do mmOp d x (0, k); sendOp d (0, k)) ⟨⟩ chunks
  foldP (fun _ r => mmOp d x r) ⟨⟩ (tiles (later d))
  foldP (fun _ k => sendOp d (3, k)) ⟨⟩ [0, 1, 2, 3]
  let s ← foldP (fun s r => useOp lM (own d) d s r) zeroPay (tiles (inOrder d))
  let s ← foldP (fun s k => do
    recvOp d (0, k); sendOp d (2, k); sendOp d (1, k)
    useOp rM (other d) d s (0, k)) s chunks
  let s ← foldP (fun s k => do
    recvOp d (1, k)
    (if k = 4 ∨ k = 5 then sendOp d (3, k) else .ret ⟨⟩)
    recvOp d (2, k)
    (if k = 6 ∨ k = 7 then sendOp d (3, k) else .ret ⟨⟩)
    let s ← useOp rM (other d) d s (1, k)
    useOp rM (other d) d s (2, k)) s chunks
  let s ← foldP (fun s k => do
    recvOp d (3, k)
    useOp rM (other d) d s (3, k)) s chunks
  let o ← Prog.lift (.load oM (Rect.unit (s := S256x8192) ![0, 0] S256x8192.size inb_S256x8192_S256x8192_0_0).toLoadRect (View.loadsAt_vmem h_S256x8192))
  let _ ← Prog.lift (.load oM (Rect.unit (s := S256x8192) ![0, 0] S256x8192.size inb_S256x8192_S256x8192_0_0).toLoadRect (View.loadsAt_vmem h_S256x8192))
  Prog.lift (.store oM (Rect.unit (s := S256x8192) ![0, 0] S256x8192.size inb_S256x8192_S256x8192_0_0) (k0_pay144 s o) Finset.univ (View.stores_vmem_bits_univ h_S256x8192 rfl) (.inl rfl))
  foldP (fun _ k => doneOp d (0, k)) ⟨⟩ chunks
  foldP (fun _ k => doneOp d (3, k)) ⟨⟩ [0, 1, 2, 3]
  foldP (fun _ k => do doneOp d (2, k); doneOp d (1, k)) ⟨⟩ chunks
  foldP (fun _ k => doneOp d (3, k)) ⟨⟩ [6, 7, 4, 5]

end Cert.KernelIdeal.Softmax
-- ==== Proof.KernelIdealProto.lean ====
/- The protocol of the kernel of version v06: which semaphore each device's copies and signals go to, what each of
   them hands over, and in which order the waits may happen. -/
module

public import proofs.«01_k».proof.Proof.KernelIdealBody
public import Idealize.ShloMosaic.Lib.Pipeline.Launch
public import Idealize.ShloMosaic.Lib.Pipeline.Kit
public import Idealize.ShloMosaic.Lib.Pipeline.BigSepL
public import Idealize.ShloMosaic.Lib.VecWindow
public import Idealize.ShloMosaic.Lib.Tactic

@[expose] public section

noncomputable section

namespace Cert.KernelIdeal.Softmax

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

/-- The ghost state of the kernel's own rounds. -/
abbrev UB : Type := URounds (GSem nD τ sig) Ax
/-- The ghost state in all: the pipeline's and the kernel's own. -/
abbrev UU : Type := UR sig nD τ × UB

local notation "𝕄" => MT nD τ sig Unit (Elt F) ℕ UU ℕ

/-- Where the pipeline's ghost state sits. -/
abbrev EP : Emb (UR sig nD τ) (MT nD τ sig Unit (Elt F) ℕ UU ℕ) := embL
/-- Where the kernel's own ghost state sits. -/
abbrev ER : Emb UB (MT nD τ sig Unit (Elt F) ℕ UU ℕ) := embR

variable (m : (ℓ : Loc nD τ sig) → Buf (Elt F) ℓ) (ρ : Dev nD → PrngReg)

/-- The state the program starts in. -/
def s₀ : MemSt nD τ sig (Elt F) := ⟨m, fun _ => 0, ρ⟩

/-! ## The mesh and the tiles' names -/

/-- Crossing the mesh twice along an axis leads back. -/
theorem peer_peer (a : Ax) (d : Dev nD) : peer a (peer a d) = d := by revert a d; decide

/-- Crossing the mesh along an axis, as a permutation of the devices. -/
def peerE (a : Ax) : Dev nD ≃ Dev nD := ⟨peer a, peer a, peer_peer a, peer_peer a⟩

/-- Exclusive or with the same part twice changes nothing. -/
theorem xorP_self (p q : Fin 4) : xorP p (xorP p q) = q := by revert p q; decide

/-- Relative and absolute names of a device's tiles, as a permutation. -/
def absE (d : Dev nD) : Slot ≃ Slot :=
  ⟨fun r => (absP d r.1, r.2), fun r => (absP d r.1, r.2), fun r => by simp [absP, xorP_self], fun r => by simp [absP, xorP_self]⟩

/-- A tile sent keeps its absolute name. -/
theorem absP_peer (d : Dev nD) (r : Slot) : absP (peer (ax r) d) r.1 = absP d (src r).1 := by
  obtain ⟨q, k⟩ := r; revert d q k; decide +kernel

/-! ## The semaphores -/

/-- The kernel's own semaphores: `(true, r)` is the receive semaphore of tile `r`, `(false, r)` the send semaphore of
    the copy into the tile the neighbour calls `r`; `none` is the barrier. -/
def osem (k : Bool × Slot) : SemLoc sig := if k.1 then .dma (recvSem k.2.1 k.2.2) else .dma (sendSem k.2)
/-- The names of the kernel's semaphores on one device. -/
abbrev CK : Type := Option (Bool × Slot)
/-- The semaphore of a name. -/
def ksem : CK → SemLoc sig
  | none => .reg barSem
  | some k => osem k
/-- The semaphore of a name on a device. -/
def kcell (ck : Dev nD × CK) : GSem nD τ sig := ((ck.1 : Thread nD τ), ksem ck.2)

/-- Device `c`'s barrier. -/
abbrev barCell (c : Dev nD) : GSem nD τ sig := ((c : Thread nD τ), .reg barSem)
/-- Device `c`'s receive semaphore of the tile it calls `r`. -/
abbrev recvCell (c : Dev nD) (r : Slot) : GSem nD τ sig := ((c : Thread nD τ), .dma (recvSem (absP c r.1) r.2))
/-- Device `c`'s send semaphore of the copy into the tile its neighbour calls `r`. -/
abbrev sendCell (c : Dev nD) (r : Slot) : GSem nD τ sig := ((c : Thread nD τ), .dma (sendSem r))

/-- Which of the kernel's semaphores a number names. -/
def role (q : DmaSem sig) : Option (Bool × Slot) :=
  if 35 ≤ q.val then some (true, (⟨(q.val - 35) / 8 % 4, Nat.mod_lt _ (by decide)⟩, ⟨(q.val - 35) % 8, Nat.mod_lt _ (by decide)⟩))
  else if 33 ≤ q.val then some (false, (3, ⟨(q.val - 33 + 6) % 8, Nat.mod_lt _ (by decide)⟩))
  else if 25 ≤ q.val then some (false, (1, ⟨(q.val - 25) % 8, Nat.mod_lt _ (by decide)⟩))
  else if 23 ≤ q.val then some (false, (3, ⟨(q.val - 23 + 4) % 8, Nat.mod_lt _ (by decide)⟩))
  else if 15 ≤ q.val then some (false, (2, ⟨(q.val - 15) % 8, Nat.mod_lt _ (by decide)⟩))
  else if 11 ≤ q.val then some (false, (3, ⟨(q.val - 11) % 8, Nat.mod_lt _ (by decide)⟩))
  else if 3 ≤ q.val then some (false, (0, ⟨(q.val - 3) % 8, Nat.mod_lt _ (by decide)⟩))
  else none

/-- The number of a receive semaphore names that semaphore. -/
theorem role_recv (p : Fin 4) (k : Fin 8) : role (recvSem p k) = some (true, (p, k)) := by revert p k; decide +kernel
/-- The number of a send semaphore names that semaphore. -/
theorem role_send (r : Slot) : role (sendSem r) = some (false, r) := by obtain ⟨q, k⟩ := r; revert q k; decide +kernel

/-- What a copy of a tile credits. -/
abbrev N : ℕ := (tileM rM 0 0).view.dmaCredit
/-- A copy of a tile credits something. -/
theorem N_pos : 0 < N := View.dmaCredit_pos _ (by decide)

/-! ## Contents -/

/-- What the staging buffer of x holds while the kernel runs. -/
def xstg (c : Dev nD) : (cc0_stg0_0 : Ref sig .tc).ty.Contents (Elt F) :=
  (win0_0.blk (0 : Fin 1)).view.read (Elt F) ((s₀ m ρ).mem ((c : Thread nD τ).loc main_arg0))
/-- What the staging buffer of W holds while the kernel runs. -/
def wstg (c : Dev nD) : (cc0_stg1_0 : Ref sig .tc).ty.Contents (Elt F) :=
  (win0_1.blk (0 : Fin 1)).view.read (Elt F) ((s₀ m ρ).mem ((c : Thread nD τ).loc main_arg1))

/-- Tile `(p, k)` of the logits device `c` computes. -/
def tileV (c : Dev nD) (p : Fin 4) (k : Fin 8) : Vec F S1x1x256x128 .f32 :=
  mmPay (xstg m ρ c) (wM.view.readAt (Elt F) (colRect p k).toLoadRect (wstg m ρ c))

/-- The device that computed the tile device `c` receives as `r`. -/
def orig (c : Dev nD) (r : Slot) : Dev nD :=
  match r.1 with
  | 0 => peer .x c
  | 1 => peer .x (peer .z c)
  | 2 => peer .x (peer .y c)
  | 3 => if r.2.val < 4 then peer .x c else peer .x (peer .y (peer .z c))

/-- What device `c` receives as `r`. -/
def rtileV (c : Dev nD) (r : Slot) : Vec F S1x1x256x128 .f32 := tileV m ρ (orig c r) (absP c r.1) r.2

/-- What device `c` sends into the tile its neighbour calls `r`. -/
def sendV (c : Dev nD) (r : Slot) : Vec F S1x1x256x128 .f32 :=
  if ax r = .x then tileV m ρ c (absP c (src r).1) r.2 else rtileV m ρ c (src r)

/-- Whatever a device sends its neighbour was computed by itself, if it goes over x, and else by the device it got it
    from. -/
theorem orig_peer (d : Dev nD) (r : Slot) : orig (peer (ax r) d) r = if ax r = .x then d else orig d (src r) := by
  obtain ⟨q, k⟩ := r; revert d q k; decide +kernel

/-- A tile keeps its chunk when it is sent. -/
theorem src_snd (r : Slot) : (src r).2 = r.2 := rfl

/-- A tile arrives as it was sent. -/
theorem rtileV_peer (d : Dev nD) (r : Slot) : rtileV m ρ (peer (ax r) d) r = sendV m ρ d r := by
  unfold rtileV sendV
  rw [orig_peer, absP_peer]
  split
  · rfl
  · unfold rtileV; rfl

/-- A tile of a buffer as a view of the buffer's rank. -/
abbrev tv (M : Memref sig .tc .vmem S4x8x256x128 .f32) (p : Fin 4) (k : Fin 8) : View sig .tc .vmem S1x1x256x128 .f32 :=
  M.access (tileRect p k)

/-- Tile `(p, k)` of a buffer of device `c`, held at a share, holds `v`. -/
def tpts (M : Memref sig .tc .vmem S4x8x256x128 .f32) (c : Dev nD) (p : Fin 4) (k : Fin 8) (q : PosShare TreeShare)
    (v : Vec F S1x1x256x128 .f32) : sProp 𝕄 :=
  (tv M p k).loc (c : Thread nD τ) ↦[(tv M p k).set]{q} (tv M p k).rep v

/-- Tile `(p, k)` of a buffer of device `c`, held whole, holds something. -/
def traw (M : Memref sig .tc .vmem S4x8x256x128 .f32) (c : Dev nD) (p : Fin 4) (k : Fin 8) : sProp 𝕄 :=
  iprop(∃ f : Buf (Elt F) ((tv M p k).loc (c : Thread nD τ)), (tv M p k).loc (c : Thread nD τ) ↦[(tv M p k).set]{fullShare} f)

/-- A filled tile may be kept in an invariant. -/
instance tpts_storable (M) (c : Dev nD) (p k q) (v : Vec F S1x1x256x128 .f32) :
    BI.Storable (upEmb : UEmb _ 𝕄) (tpts M c p k q v) := by unfold tpts; infer_instance
/-- A tile that holds something may be kept in an invariant. -/
instance traw_storable (M) (c : Dev nD) (p k) :
    BI.Storable (upEmb : UEmb _ 𝕄) (traw (F := F) M c p k) := by unfold traw; infer_instance

/-- A filled tile is cut into three shares: two may be lent to copies, one is kept for loads. This is the first, lent
    to copies over x and y. -/
abbrev shA : PosShare TreeShare := fullShare.left
/-- The second share, lent to copies over z. -/
abbrev shB : PosShare TreeShare := fullShare.right.left
/-- The third share, kept for loads. -/
abbrev shC : PosShare TreeShare := fullShare.right.right

/-- The share a copy borrows. -/
def shr : Ax → PosShare TreeShare
  | .x => shA
  | .y => shA
  | .z => shB

/-! ## The schedule -/

/-- The tiles a device receives over an axis. -/
def into : Ax → List Slot
  | .x => [(0, 0), (0, 1), (0, 2), (0, 3), (0, 4), (0, 5), (0, 6), (0, 7), (3, 0), (3, 1), (3, 2), (3, 3)]
  | .y => [(2, 0), (2, 1), (2, 2), (2, 3), (2, 4), (2, 5), (2, 6), (2, 7), (3, 4), (3, 5)]
  | .z => [(1, 0), (1, 1), (1, 2), (1, 3), (1, 4), (1, 5), (1, 6), (1, 7), (3, 6), (3, 7)]

/-- The tiles received over an axis are filled along it. -/
theorem ax_into (a : Ax) : ∀ r ∈ into a, ax r = a := by cases a <;> decide

/-- The tile device `c` receives as `r`, before it arrives. -/
def rraw (c : Dev nD) (r : Slot) : sProp 𝕄 := traw (F := F) rM c (absP c r.1) r.2

/-- With its signal over axis `a`, a neighbour hands device `c` the tiles `c` is to fill. -/
def barPay (c : Dev nD) (a : Ax) : sProp 𝕄 := bigSepL (into a) fun r => rraw (F := F) (peer a c) r
/-- What a landing copy hands the receiver: the tile. -/
def recvPay (c : Dev nD) (p : Fin 4) (k : Fin 8) : sProp 𝕄 := tpts rM c p k fullShare (rtileV m ρ c ((absE c).symm (p, k)))
/-- What a completed copy hands its sender back: the share of the source it borrowed. -/
def sendPay (c : Dev nD) (r : Slot) : sProp 𝕄 := tpts (srcM r) c (absP c (src r).1) r.2 (shr (ax r)) (sendV m ρ c r)

/-- A list of things that may be kept in an invariant may be kept in one. -/
instance bigSepL_storable {I : Type} (l : List I) (Φ : I → sProp 𝕄) [h : ∀ i, BI.Storable (upEmb : UEmb _ 𝕄) (Φ i)] :
    BI.Storable (upEmb : UEmb _ 𝕄) (bigSepL l Φ) := by
  induction l with
  | nil => exact (inferInstance : BI.Storable (upEmb : UEmb _ 𝕄) iprop(emp))
  | cons i l ih => rw [bigSepL_cons]; haveI := ih; exact (inferInstance : BI.Storable (upEmb : UEmb _ 𝕄) iprop(Φ i ∗ bigSepL l Φ))

/-- A receive tile before its arrival may be kept in an invariant. -/
instance rraw_storable (c : Dev nD) (r) : BI.Storable (upEmb : UEmb _ 𝕄) (rraw (F := F) c r) := by unfold rraw; infer_instance
/-- What a barrier signal hands over may be kept in an invariant. -/
instance barPay_storable (c : Dev nD) (a) : BI.Storable (upEmb : UEmb _ 𝕄) (barPay (F := F) c a) := by unfold barPay; infer_instance
/-- What a landing copy hands over may be kept in an invariant. -/
instance recvPay_storable (c : Dev nD) (p k) : BI.Storable (upEmb : UEmb _ 𝕄) (recvPay m ρ c p k) := by unfold recvPay; infer_instance
/-- What a completed copy gives back may be kept in an invariant. -/
instance sendPay_storable (c : Dev nD) (r) : BI.Storable (upEmb : UEmb _ 𝕄) (sendPay m ρ c r) := by unfold sendPay; infer_instance

/-- The payload of a semaphore's landing. -/
def payAt (g : GSem nD τ sig) (a : Ax) : sProp 𝕄 :=
  match g.2 with
  | .reg _ => barPay g.1.1 a
  | .dma q => match role q with
    | some (true, r) => recvPay m ρ g.1.1 r.1 r.2
    | some (false, r) => sendPay m ρ g.1.1 r
    | none => iprop(emp)

/-- The payload of any semaphore may be kept in an invariant. -/
instance payAt_storable (g : GSem nD τ sig) (a : Ax) : BI.Storable (upEmb : UEmb _ 𝕄) (payAt m ρ g a) := by
  unfold payAt; split
  · infer_instance
  · split <;> infer_instance

/-- Who must raise a semaphore in its one round: the barrier's three neighbours, one copy for each other. -/
def dutiesAt (g : GSem nD τ sig) : Finset Ax :=
  match g.2 with
  | .reg s => if s = barSem then Finset.univ else ∅
  | .dma q => if (role q).isSome then {.x} else ∅

/-- The schedule: one round for every semaphore. -/
def Rd : Rounds.Schedule (GSem nD τ sig) Ax 𝕄 where
  duties g r := if r = 0 ∧ g.1.2 = .tc then dutiesAt g else ∅
  unitless _ := False
  amount g _ _ := match g.2 with | .reg _ => 1 | .dma _ => N
  payload g _ a := payAt m ρ g a
  amount_pos g _ _ _ := by
    obtain ⟨t, s⟩ := g
    cases s with
    | reg s => exact Nat.one_pos
    | dma q => exact N_pos

/-- Every payload of the schedule may be kept in an invariant. -/
instance Rd_payload_storable (g : GSem nD τ sig) (r : ℕ) (a : Ax) : BI.Storable (upEmb : UEmb _ 𝕄) ((Rd (F := F) m ρ).payload g r a) :=
  payAt_storable m ρ g a

section Sched
variable (c : Dev nD) (r : Slot) (a : Ax)

/-- All three neighbours must raise the barrier. -/
theorem duties_bar : (Rd (F := F) m ρ).duties (barCell c) 0 = Finset.univ := by
  dsimp only [Rd]; rw [if_pos ⟨rfl, rfl⟩]; unfold dutiesAt; exact if_pos rfl
/-- One copy must raise each of the kernel's copy semaphores. -/
theorem duties_dma (q : DmaSem sig) (h : (role q).isSome) : (Rd (F := F) m ρ).duties ((c : Thread nD τ), .dma q) 0 = {.x} := by
  dsimp only [Rd]; rw [if_pos ⟨rfl, rfl⟩]; unfold dutiesAt; exact if_pos h
/-- One copy must raise a receive semaphore. -/
theorem duties_recv : (Rd (F := F) m ρ).duties (recvCell c r) 0 = {.x} := duties_dma m ρ c _ (by rw [role_recv]; rfl)
/-- One copy must raise a send semaphore. -/
theorem duties_send : (Rd (F := F) m ρ).duties (sendCell c r) 0 = {.x} := duties_dma m ρ c _ (by rw [role_send]; rfl)
/-- No semaphore has a second round. -/
theorem duties_later (g : GSem nD τ sig) : ∀ r, 1 ≤ r → (Rd (F := F) m ρ).duties g r = ∅ :=
  fun r hr => if_neg fun h => by omega

/-- A barrier reaches three. -/
theorem expect_bar : (Rd (F := F) m ρ).expect (barCell c) 0 = 3 := by
  unfold Schedule.expect Schedule.amountOf; rw [duties_bar]; rfl
/-- A receive semaphore reaches the credit of one tile. -/
theorem expect_recv : (Rd (F := F) m ρ).expect (recvCell c r) 0 = N := by
  unfold Schedule.expect Schedule.amountOf; rw [duties_recv, Finset.sum_singleton]; rfl
/-- A send semaphore reaches the credit of one tile. -/
theorem expect_send : (Rd (F := F) m ρ).expect (sendCell c r) 0 = N := by
  unfold Schedule.expect Schedule.amountOf; rw [duties_send, Finset.sum_singleton]; rfl

/-- A receive semaphore hands over its tile, filled. -/
theorem payload_recv : (Rd (F := F) m ρ).payload (recvCell c r) 0 a = tpts rM c (absP c r.1) r.2 fullShare (rtileV m ρ c r) := by
  show payAt m ρ (recvCell c r) a = _
  unfold payAt; dsimp only; rw [role_recv]; dsimp only
  unfold recvPay
  rw [show (absE c).symm (absP c r.1, r.2) = r from (absE c).symm_apply_apply r]
/-- A send semaphore gives back the share its copy borrowed. -/
theorem payload_send : (Rd (F := F) m ρ).payload (sendCell c r) 0 a = sendPay m ρ c r := by
  show payAt m ρ (sendCell c r) a = _
  unfold payAt; dsimp only; rw [role_send]

/-- Something for every axis is something for x, for y and for z. -/
theorem bigSep_Ax (Φ : Ax → sProp 𝕄) : bigSep Finset.univ Φ = iprop(Φ .x ∗ Φ .y ∗ Φ .z) :=
  bigSep_univ_eq_bigSepL [Ax.x, Ax.y, Ax.z] (by decide) (by decide) Φ

/-- All that a barrier hands over: the tiles to fill of the three neighbours. -/
theorem rest_bar : bigSep ((Rd (F := F) m ρ).duties (barCell c) 0 \ ∅) (fun u => (Rd (F := F) m ρ).payload (barCell c) 0 u)
    = iprop(barPay c .x ∗ barPay c .y ∗ barPay c .z) := by
  rw [Finset.sdiff_empty, duties_bar, bigSep_Ax]; rfl
/-- All that a receive semaphore hands over: its tile, filled. -/
theorem rest_recv : bigSep ((Rd (F := F) m ρ).duties (recvCell c r) 0 \ ∅) (fun u => (Rd (F := F) m ρ).payload (recvCell c r) 0 u)
    = tpts rM c (absP c r.1) r.2 fullShare (rtileV m ρ c r) := by
  rw [Finset.sdiff_empty, duties_recv, bigSep_singleton, payload_recv]
/-- All that a send semaphore gives back: the share its copy borrowed. -/
theorem rest_send : bigSep ((Rd (F := F) m ρ).duties (sendCell c r) 0 \ ∅) (fun u => (Rd (F := F) m ρ).payload (sendCell c r) 0 u)
    = sendPay m ρ c r := by
  rw [Finset.sdiff_empty, duties_send, bigSep_singleton, payload_send]

end Sched

/-! ## What each device owes, and the levels -/

/-- A device owes every neighbour's tile it has not sent yet; `l` lists those. -/
def Osum (d : Dev nD) (l : List Slot) : CellTallies nD τ sig Unit := (l.map fun r => tallyAt (recvCell (peer (ax r) d) r) () N).sum

/-- Owing one tile more. -/
theorem Osum_cons (d : Dev nD) (r : Slot) (l : List Slot) : Osum d (r :: l) = Osum d l + tallyAt (recvCell (peer (ax r) d) r) () N := by
  unfold Osum; rw [List.map_cons, List.sum_cons, add_comm]

/-- Whatever is owed is owed to the receive semaphore of a tile of the list. -/
theorem Osum_pos {d : Dev nD} {l : List Slot} {g : GSem nD τ sig} {u : Unit} (h : 0 < Osum d l g u) :
    ∃ r ∈ l, g = recvCell (peer (ax r) d) r := by
  induction l with
  | nil => exact absurd h (Nat.lt_irrefl 0)
  | cons r l ih =>
    rw [Osum_cons, Pi.add_apply, Finsupp.add_apply, tallyAt_apply] at h
    by_cases hg : g = recvCell (peer (ax r) d) r ∧ u = ()
    · exact ⟨r, List.mem_cons_self, hg.1⟩
    · rw [if_neg hg, add_zero] at h
      obtain ⟨r', hr', e⟩ := ih h
      exact ⟨r', List.mem_cons_of_mem _ hr', e⟩

/-- How late the tile a device calls `r` may arrive. -/
def rlev (r : Slot) : ℕ :=
  match r.1 with
  | 0 => 2
  | 1 => 3
  | 2 => 3
  | 3 => if r.2.val < 4 then 2 else 4

/-- The semaphores with a level: those of the tensor cores. -/
def L (g : GSem nD τ sig) : Finset Unit := if g.1.2 = .tc then {()} else ∅
/-- The levels: staging and send semaphores 0, the barrier 1, the receive semaphores by their tiles. -/
def lv (g : GSem nD τ sig) (_ : Unit) : ℕ :=
  match g.2 with
  | .reg _ => 1
  | .dma q => match role q with
    | some (true, r) => rlev ((absE g.1.1).symm r)
    | _ => 0
/-- No other thread's semaphore has a level. -/
theorem L_of_ne (g : GSem nD τ sig) (h : g.1.2 ≠ .tc) : L g = ∅ := if_neg h
/-- Every semaphore of a tensor core has a level. -/
theorem L_tc (c : Dev nD) (sm : SemLoc sig) : L ((c : Thread nD τ), sm) = {()} := if_pos rfl

/-- The level of a receive semaphore is that of its tile. -/
theorem lv_recv (c : Dev nD) (r : Slot) : lv (recvCell c r) () = rlev r := by
  show (match role (recvSem (absP c r.1) r.2) with | some (true, r) => rlev ((absE c).symm r) | _ => 0) = _
  rw [role_recv]
  exact congrArg rlev ((absE c).symm_apply_apply r)

/-- A wait below every tile still owed is allowed. -/
theorem mayWait_tiles (c : Dev nD) (sm : SemLoc sig) (n : ℕ) (l : List Slot) (hn : lv ((c : Thread nD τ), sm) () ≤ n) (hl : ∀ r ∈ l, n < rlev r) :
    (levAts L lv : sProp 𝕄) ⊢ MayWait (c : Thread nD τ) sm () (Osum c l) :=
  MayOwe.of_cut (L := L) (lev := lv) n (fun p hp => by rw [Finset.mem_singleton.mp hp, L_tc]; exact Finset.mem_singleton_self _)
    (fun g u hg => by obtain ⟨r, _, rfl⟩ := Osum_pos hg; rw [L_tc]; exact Finset.mem_singleton_self _)
    (fun p hp => by rw [Finset.mem_singleton.mp hp]; exact hn)
    (fun g u hg => by obtain ⟨r, hr, rfl⟩ := Osum_pos hg; rw [lv_recv]; exact hl r hr)

/-- The order in which a device sends: first its home part, over x. -/
def sends₁ : List Slot := [(0, 0), (0, 1), (0, 2), (0, 3), (0, 4), (0, 5), (0, 6), (0, 7)]
/-- Then the diagonal part's first four chunks, over x. -/
def sends₂ : List Slot := [(3, 0), (3, 1), (3, 2), (3, 3)]
/-- Then the arrived home part, chunk by chunk, over y and over z. -/
def sends₃ : List Slot := [(2, 0), (1, 0), (2, 1), (1, 1), (2, 2), (1, 2), (2, 3), (1, 3), (2, 4), (1, 4), (2, 5), (1, 5), (2, 6), (1, 6), (2, 7), (1, 7)]
/-- Last the rest of the diagonal part, over y and over z. -/
def sends₄ : List Slot := [(3, 4), (3, 5), (3, 6), (3, 7)]
/-- All the sends in their order. -/
def sends : List Slot := sends₁ ++ (sends₂ ++ (sends₃ ++ sends₄))

/-- What a device owes at its launch: every tile it sends and a signal to each neighbour. -/
def O₀ (c : Dev nD) : CellTallies nD τ sig Unit :=
  Osum c sends + tallyAt (barCell (peer .z c)) () 1 + tallyAt (barCell (peer .y c)) () 1 + tallyAt (barCell (peer .x c)) () 1

/-- What a device owes at its launch is owed to a receive semaphore or a barrier of a neighbour. -/
theorem O₀_pos {c : Dev nD} {g : GSem nD τ sig} {u : Unit} (h : 0 < O₀ c g u) :
    (∃ r ∈ sends, g = recvCell (peer (ax r) c) r) ∨ ∃ a, g = barCell (peer a c) := by
  unfold O₀ at h
  simp only [Pi.add_apply, Finsupp.add_apply, tallyAt_apply] at h
  by_cases h0 : 0 < Osum c sends g u
  · exact .inl (Osum_pos h0)
  · refine .inr ?_
    by_contra hn
    have hy (a : Ax) : g ≠ barCell (peer a c) := fun e => hn ⟨a, e⟩
    simp only [hy, false_and, if_false, add_zero] at h
    exact h0 h

/-- Every tile's level is above the barrier's. -/
theorem rlev_pos (r : Slot) : 1 < rlev r := by obtain ⟨q, k⟩ := r; revert q k; decide

/-- The waits of the staging copies, before and after the kernel. -/
theorem mayWait_stage (c : Dev nD) (q : DmaSem sig) (hq : role q = none) (O : CellTallies nD τ sig Unit) (hO : O = O₀ c ∨ O = 0) :
    (levAts L lv : sProp 𝕄) ⊢ MayWait (c : Thread nD τ) (.dma q) () O := by
  rcases hO with rfl | rfl
  · refine MayOwe.of_cut (L := L) (lev := lv) 0 (fun p hp => by rw [Finset.mem_singleton.mp hp, L_tc]; exact Finset.mem_singleton_self _)
      (fun g u hg => by rcases O₀_pos hg with ⟨r, _, rfl⟩ | ⟨a, rfl⟩ <;> exact Finset.mem_singleton_self _)
      (fun p hp => by rw [Finset.mem_singleton.mp hp]; dsimp only [lv]; rw [hq])
      (fun g u hg => by
        rcases O₀_pos hg with ⟨r, _, rfl⟩ | ⟨a, rfl⟩
        · rw [lv_recv]; exact Nat.lt_trans Nat.zero_lt_one (rlev_pos r)
        · exact Nat.zero_lt_one)
  · rw [MayWait_zero]; iintro -; iempintro

end Cert.KernelIdeal.Softmax
-- ==== Proof.KernelIdealSteps.lean ====
/- What each step of the kernel of version v06 does to the tiles and the semaphores. -/
module

public import proofs.«01_k».proof.Proof.KernelIdealProto

@[expose] public section

noncomputable section

namespace Cert.KernelIdeal.Softmax

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ UU ℕ

variable (m : (ℓ : Loc nD τ sig) → Buf (Elt F) ℓ) (ρ : Dev nD → PrngReg)

/-- The run has no loop variants to count. -/
abbrev 𝒱₀ : Variants := Variants.none

/-- The weakest precondition of a program on device `c`. -/
abbrev bwp {α : Type} (c : Dev nD) (p : BP F α) (Q : α → sProp 𝕄) : sProp 𝕄 :=
  wp frame (wpE (defs₀ (F := F)) 𝒱₀ (c : Thread nD τ) none) Set.univ p Q

/-! ## Tiles -/

section Tiles
variable (M : Memref sig .tc .vmem S4x8x256x128 .f32) (c : Dev nD) (p : Fin 4) (k : Fin 8)

/-- A tile whose elements read `v` holds `v`. -/
theorem tpts_of_read (q : PosShare TreeShare) (v : Vec F S1x1x256x128 .f32) (f : Buf (Elt F) ((tv M p k).loc (c : Thread nD τ)))
    (h : (tv M p k).read (Elt F) f = v) : ((tv M p k).loc (c : Thread nD τ) ↦[(tv M p k).set]{q} f : sProp 𝕄) ⊢ tpts M c p k q v := by
  unfold tpts
  exact pointsTo_rep_of_read (c : Thread nD τ) (M.slice (tileRect p k) (fun _ => rfl)) f q v h

/-- A filled tile holds something. -/
theorem tpts_raw (v : Vec F S1x1x256x128 .f32) : tpts M c p k fullShare v ⊢ traw (F := F) M c p k := by
  unfold tpts traw
  iintro H; iexists _; iexact H

/-- A filled tile is cut into its three shares, and they join to it again. -/
theorem tpts_cut (v : Vec F S1x1x256x128 .f32) : (tpts M c p k fullShare v : sProp 𝕄) = iprop(tpts M c p k shA v ∗ tpts M c p k shB v ∗ tpts M c p k shC v) := by
  unfold tpts
  rw [BI.Entails.antisymm (pointsTo_share (PosShare.mem_left_op_right fullShare)).1 (pointsTo_share (PosShare.mem_left_op_right fullShare)).2,
    BI.Entails.antisymm (pointsTo_share (PosShare.mem_left_op_right fullShare.right)).1 (pointsTo_share (PosShare.mem_left_op_right fullShare.right)).2]

/-- A tile as the 256×128 view the copies name. -/
theorem set_tileM : (tileM M p k).view.set = (tv M p k).set := View.set_reshape _ _

/-- The 256×128 view of a tile reads the same elements. -/
theorem read_tileM (f : Buf (Elt F) ((tv M p k).loc (c : Thread nD τ))) (i : S256x128.Idx) :
    (tileM M p k).view.read (Elt F) f i = (tv M p k).read (Elt F) f (Shape.reshapeEquiv (squeezes_S1x1x256x128_S256x128).numel_eq i) := rfl

/-- What lands in a tile from a tile reads as the tile it came from. -/
theorem read_landed (M' : Memref sig .tc .vmem S4x8x256x128 .f32) (c' : Dev nD) (fd : Buf (Elt F) ((tv M' p k).loc (c' : Thread nD τ)))
    (v : Vec F S1x1x256x128 .f32) :
    (tv M' p k).read (Elt F) ((tileM M' p k).view.write (Elt F) fd ((tileM M p k).view.read (Elt F) ((tv M p k).rep v)) Finset.univ) = v := by
  have h := View.read_write_univ (v := (tileM M' p k).view) (Val := Elt F) fd ((tileM M p k).view.read (Elt F) ((tv M p k).rep v))
  funext j
  obtain ⟨i, rfl⟩ := (Shape.reshapeEquiv (squeezes_S1x1x256x128_S256x128).numel_eq).surjective j
  have h' := congrFun h i
  rw [read_tileM M' c' p k] at h'
  rw [h']
  show (tv M p k).read (Elt F) ((tv M p k).rep v) _ = _
  rw [View.read_rep]; rfl

end Tiles

/-! ## The records every step reads -/

variable (K : Dev nD × CK → ℕ)

/-- Every semaphore's invariant, and that its round is open. -/
def records : sProp 𝕄 :=
  iprop((bigSep Finset.univ fun ck : Dev nD × CK => cellInv ER (Rd m ρ) (K ck) (kcell ck))
    ∗ bigSep Finset.univ fun ck : Dev nD × CK => reached ER (kcell ck) 0)
/-- The records may be read any number of times. -/
instance records_persistent : BI.Persistent (records m ρ K) := by unfold records; infer_instance

/-- The records hold each semaphore's invariant. -/
theorem inv_at (ck : Dev nD × CK) : records m ρ K ⊢ cellInv ER (Rd m ρ) (K ck) (kcell ck) :=
  (show records m ρ K ⊢ bigSep Finset.univ fun ck : Dev nD × CK => cellInv ER (Rd m ρ) (K ck) (kcell ck) from by
    unfold records; iintro ⟨H, -⟩; iexact H).trans (bigSep_elim (Finset.mem_univ ck))
/-- The records say of each semaphore that its round is open. -/
theorem reached_at (ck : Dev nD × CK) : records m ρ K ⊢ reached ER (kcell ck) 0 :=
  (show records m ρ K ⊢ bigSep Finset.univ fun ck : Dev nD × CK => (reached ER (kcell ck) 0 : sProp 𝕄) from by
    unfold records; iintro ⟨-, H⟩; iexact H).trans (bigSep_elim (Finset.mem_univ ck))

/-- The name of a receive semaphore. -/
abbrev ckR (c : Dev nD) (r : Slot) : Dev nD × CK := (c, some (true, (absP c r.1, r.2)))
/-- The name of a send semaphore. -/
abbrev ckS (c : Dev nD) (r : Slot) : Dev nD × CK := (c, some (false, r))

/-- What the core owes, whatever it has waited for. -/
def owesE (c : Dev nD) (O : CellTallies nD τ sig Unit) : sProp 𝕄 := iprop(∃ W, owes (c : Thread nD τ) O W)

/-- The rights to send the tile the neighbour calls `r`. -/
def stoks (d : Dev nD) (r : Slot) : sProp 𝕄 :=
  iprop(dutyTok ER (sendCell d r) 0 Ax.x ∗ dutyTok ER (recvCell (peer (ax r) d) r) 0 Ax.x)

/-- What a send leaves to wait for. -/
def scred (d : Dev nD) (r : Slot) : sProp 𝕄 := cred (tallyAt (sendCell d r) () N)

/-- What a device receives a tile by. -/
def rcred (d : Dev nD) (r : Slot) : sProp 𝕄 := iprop(cred (tallyAt (recvCell d r) () N) ∗ atPos ER (recvCell d r) 0 ∅ 0)

/-- The send of one tile. -/
theorem sendOp_spec (d : Dev nD) (r : Slot) (l : List Slot) :
    iprop(records m ρ K ∗ sendPay m ρ d r ∗ rraw (F := F) (peer (ax r) d) r ∗ stoks (F := F) d r ∗ owesE (F := F) d (Osum d (r :: l)))
      ⊢ bwp d (sendOp d r) fun _ => iprop(scred (F := F) d r ∗ owesE (F := F) d (Osum d l)) := by
  unfold sendOp bwp
  simp only [Prog.lift]
  unfold sendPay rraw stoks owesE traw
  iintro ⟨#HR, Hsrc, ⟨%fd, Hdst⟩, ⟨HtS, HtR⟩, %W, HO⟩
  rw [absP_peer d r]
  iapply (Rounds.wp_send_pointsTo 𝒱₀ ER (Rd m ρ) (d : Thread nD τ) none (κ₁ := K (ckS d r)) (κ₂ := K (ckR (peer (ax r) d) r))
    (c' := (peer (ax r) d : Thread nD τ)) (src := tileM (srcM r) (absP d (src r).1) r.2) (dst := tileM rM (absP d (src r).1) r.2)
    (sS := .dma (sendSem r)) (sem := .dma (recvSem (absP d (src r).1) r.2)) (q := shr (ax r))
    (fs := (tv (srcM r) (absP d (src r).1) r.2).rep (sendV m ρ d r)) (fd := fd)
    (r₁ := 0) (r₂ := 0) (d₁ := Ax.x) (d₂ := Ax.x)
    (by rw [duties_send]; exact Finset.mem_singleton_self _)
    (by rw [← absP_peer d r, duties_recv]; exact Finset.mem_singleton_self _)
    () () N rfl rfl rfl (O₀ := Osum d (r :: l)) (Osum d l) (by rw [← absP_peer d r]; exact Osum_cons d r l) (W := W)
    (by rw [payload_send, set_tileM]; exact BI.Entails.refl _)
    (by
      rw [← absP_peer d r, payload_recv m ρ (peer (ax r) d) r Ax.x, set_tileM, rtileV_peer]
      exact tpts_of_read rM (peer (ax r) d) _ _ _ _ _ (read_landed (srcM r) _ _ rM (peer (ax r) d) _ _))) $$ [Hsrc Hdst HtS HtR HO]
  · isplitr; · iapply (inv_at m ρ K (ckS d r)); iexact HR
    isplitr; · rw [← absP_peer d r]; iapply (inv_at m ρ K (ckR (peer (ax r) d) r)); iexact HR
    isplitl [Hsrc]; · unfold tpts; rw [set_tileM]; iexact Hsrc
    isplitl [Hdst]; · rw [set_tileM]; iexact Hdst
    isplitl [HO]; · iexact HO
    isplitl [HtS]; · iexact HtS
    isplitr; · iapply (reached_at m ρ K (ckS d r)); iexact HR
    isplitl [HtR]; · rw [← absP_peer d r]; iexact HtR
    rw [← absP_peer d r]; iapply (reached_at m ρ K (ckR (peer (ax r) d) r)); iexact HR
  iintro ⟨Hc, HO⟩
  rw [wp_ret]; imodintro
  isplitl [Hc]; · unfold scred; iexact Hc
  iexists W; iexact HO

/-- The wait for one tile: it arrives whole, and its semaphore is done with. -/
theorem recvOp_spec (d : Dev nD) (r : Slot) (l : List Slot) (hl : ∀ r' ∈ l, rlev r < rlev r') :
    iprop(records m ρ K ∗ levAts L lv ∗ rcred (F := F) d r ∗ owesE (F := F) d (Osum d l))
      ⊢ bwp d (recvOp d r) fun _ => iprop(tpts rM d (absP d r.1) r.2 fullShare (rtileV m ρ d r) ∗ semVal (recvCell d r) 0 ∗ owesE (F := F) d (Osum d l)) := by
  unfold recvOp bwp
  simp only [Prog.lift]
  unfold rcred owesE
  iintro ⟨#HR, #Hlev, ⟨Hc, Hat⟩, %W, HO⟩
  iapply (Rounds.wp_wait_rest_token 𝒱₀ ER (Rd m ρ) (d : Thread nD τ) none (κ := K (ckR d r))
      (wpE_waitDma2_eq 𝒱₀ (d : Thread nD τ) none Set.univ) (Set.mem_univ _) () (O := Osum d l) (W := W) (R := 0) (m := 0) (T := ∅)
      (by rw [Nat.zero_add]; exact (expect_recv m ρ d r).symm)) $$ [Hc HO Hat]
  · isplitr; · iapply (inv_at m ρ K (ckR d r)); iexact HR
    isplitl [Hc]; · iexact Hc
    isplitl [HO]; · iexact HO
    isplitr; · iapply (mayWait_tiles d _ (rlev r) l (le_of_eq (lv_recv d r)) hl); iexact Hlev
    iexact Hat
  iintro ⟨HO, Hat, -, Hpay⟩
  rw [wp_ret]
  imod (Rounds.cell_close ER (Rd m ρ) (Set.mem_univ (K (ckR d r))) (fun h => h) (R := 0 + 1) (duties_later m ρ (recvCell d r))) $$ [Hat] with Hz
  · isplitr; · iapply (inv_at m ρ K (ckR d r)); iexact HR
    iexact Hat
  imodintro
  isplitl [Hpay]; · iapply (Entails.of_eq (rest_recv m ρ d r)); iexact Hpay
  isplitl [Hz]; · iexact Hz
  iexists _; iexact HO

/-- The wait for the end of one send: its source's share comes back, and its semaphore is done with. -/
theorem doneOp_spec (d : Dev nD) (r : Slot) :
    iprop(records m ρ K ∗ (scred (F := F) d r ∗ atPos ER (sendCell d r) 0 ∅ 0) ∗ owesE (F := F) d 0)
      ⊢ bwp d (doneOp d r) fun _ => iprop((sendPay m ρ d r ∗ semVal (sendCell d r) 0) ∗ owesE (F := F) d 0) := by
  unfold doneOp bwp
  simp only [Prog.lift]
  unfold scred owesE
  iintro ⟨#HR, ⟨Hc, Hat⟩, %W, HO⟩
  iapply (Rounds.wp_wait_rest_token 𝒱₀ ER (Rd m ρ) (d : Thread nD τ) none (κ := K (ckS d r))
      (wpE_waitDma2_eq 𝒱₀ (d : Thread nD τ) none Set.univ) (Set.mem_univ _) () (O := 0) (W := W) (R := 0) (m := 0) (T := ∅)
      (by rw [Nat.zero_add]; exact (expect_send m ρ d r).symm)) $$ [Hc HO Hat]
  · isplitr; · iapply (inv_at m ρ K (ckS d r)); iexact HR
    isplitl [Hc]; · iexact Hc
    isplitl [HO]; · iexact HO
    isplitr; · rw [MayWait_zero]; iempintro
    iexact Hat
  iintro ⟨HO, Hat, -, Hpay⟩
  rw [wp_ret]
  imod (Rounds.cell_close ER (Rd m ρ) (Set.mem_univ (K (ckS d r))) (fun h => h) (R := 0 + 1) (duties_later m ρ (sendCell d r))) $$ [Hat] with Hz
  · isplitr; · iapply (inv_at m ρ K (ckS d r)); iexact HR
    iexact Hat
  imodintro
  isplitr [HO]
  · isplitl [Hpay]; · iapply (Entails.of_eq (rest_send m ρ d r)); iexact Hpay
    iexact Hz
  iexists _; iexact HO

/-! ## The products and the uses of the tiles -/

/-- The staging buffer of W. -/
def wPts (d : Dev nD) : sProp 𝕄 := ((d : Thread nD τ).loc cc0_stg1_0) ↦{fullShare} wstg m ρ d

/-- Tile `r` of the logits device `d` computes, at a share. -/
def lpts (d : Dev nD) (q : PosShare TreeShare) (r : Slot) : sProp 𝕄 := tpts lM d (absP d r.1) r.2 q (tileV m ρ d (absP d r.1) r.2)
/-- Tile `r` of the logits device `d` receives, at a share. -/
def rpts (d : Dev nD) (q : PosShare TreeShare) (r : Slot) : sProp 𝕄 := tpts rM d (absP d r.1) r.2 q (rtileV m ρ d r)
/-- Tile `r` of the logits buffer before it is computed. -/
def lraw (d : Dev nD) (r : Slot) : sProp 𝕄 := traw (F := F) lM d (absP d r.1) r.2

/-- The product of a tile leaves its logits in the logits buffer, in three shares. -/
theorem mmOp_spec (d : Dev nD) (r : Slot) :
    iprop(lraw (F := F) d r ∗ wPts m ρ d)
      ⊢ bwp d (mmOp d (xstg m ρ d) r) fun _ => iprop((lpts m ρ d shA r ∗ lpts m ρ d shB r ∗ lpts m ρ d shC r) ∗ wPts m ρ d) := by
  unfold mmOp bwp lraw traw wPts
  simp only [Prog.lift, bind, Prog.bind, Prog.bind_op, Prog.bind_ret]
  iintro ⟨⟨%f, Hl⟩, Hw⟩
  iapply (wp_load 𝒱₀ (d : Thread nD τ) none Set.univ (m := wM) (Finset.subset_univ _)) $$ Hw; iintro Hw
  iapply (wp_load_rect 𝒱₀ (d : Thread nD τ) none Set.univ (m := lM) (r := tileRect (absP d r.1) r.2) (Finset.Subset.refl _)) $$ Hl; iintro Hl
  iapply (wp_store 𝒱₀ (d : Thread nD τ) none Set.univ (m := lM) (r := tileRect (absP d r.1) r.2) (Mk := Finset.univ) (by rw [View.setOn_univ])) $$ Hl; iintro Hl
  rw [wp_ret]; imodintro
  isplitl [Hl]
  · unfold lpts
    iapply (Entails.of_eq (tpts_cut lM d (absP d r.1) r.2 (tileV m ρ d (absP d r.1) r.2)))
    iapply (tpts_of_read lM d (absP d r.1) r.2 fullShare (tileV m ρ d (absP d r.1) r.2) _ (View.read_write_univ _ _))
    iexact Hl
  · iexact Hw

/-- The running state of the uses: the row sums and the result buffer. -/
abbrev Acc (F : FTy → Type) [FloatOps F] : Type := FVec F S256x1 .f32 × Vec F S256x8192 .f32

/-- The use of a tile, on values. -/
def useV (h : Fin 2) (p : Fin 4) (k : Fin 8) (v : Vec F S1x1x256x128 .f32) (a : Acc F) : Acc F :=
  (sumPay a.1 v, (oM.access (outRect h p k)).write (Elt F) a.2 (expPay v) Finset.univ)

/-- The result's staging buffer. -/
def oPts (d : Dev nD) (f : Vec F S256x8192 .f32) : sProp 𝕄 := ((d : Thread nD τ).loc cc0_stg2_0) ↦{fullShare} f

/-- The use of a tile that holds `v` adds its row sums and puts its exponentials into the result. -/
theorem useOp_spec (M : Memref sig .tc .vmem S4x8x256x128 .f32) (h : Fin 2) (d : Dev nD) (r : Slot) (a : Acc F) (v : Vec F S1x1x256x128 .f32) :
    iprop(tpts M d (absP d r.1) r.2 shC v ∗ oPts d a.2)
      ⊢ bwp d (useOp M h d a.1 r) fun s => iprop(tpts M d (absP d r.1) r.2 shC v
          ∗ (⌜s = (useV h (absP d r.1) r.2 v a).1⌝ ∗ oPts d (useV h (absP d r.1) r.2 v a).2)) := by
  unfold useOp bwp tpts oPts
  simp only [Prog.lift, bind, Prog.bind, Prog.bind_op, Prog.bind_ret]
  iintro ⟨Ht, Ho⟩
  iapply (wp_load_rect 𝒱₀ (d : Thread nD τ) none Set.univ (m := M) (r := tileRect (absP d r.1) r.2) (Finset.Subset.refl _)) $$ Ht; iintro Ht
  rw [View.read_rep]
  iapply (wp_load 𝒱₀ (d : Thread nD τ) none Set.univ (m := oM) (Finset.subset_univ _)) $$ Ho; iintro Ho
  iapply (wp_store 𝒱₀ (d : Thread nD τ) none Set.univ (m := oM) (r := outRect h (absP d r.1) r.2) (Mk := Finset.univ) (Finset.subset_univ _)) $$ Ho; iintro Ho
  rw [show (pure (sumPay a.1 v) : BP F _) = .ret (sumPay a.1 v) from rfl, wp_ret]; imodintro
  isplitl [Ht]; · iexact Ht
  isplitr; · ipureintro; rfl
  iexact Ho

/-! ## Loops -/

/-- A loop over a list whose step takes each member's `P` to its `Q` and keeps an invariant. -/
theorem foldP_spec {S ι : Type} (d : Dev nD) (f : S → ι → BP F S) (P Q : ι → sProp 𝕄) (J : List ι → S → sProp 𝕄) (l : List ι)
    (hstep : ∀ i l' s, i ∈ l → iprop(P i ∗ J (i :: l') s) ⊢ bwp d (f s i) fun s' => iprop(Q i ∗ J l' s')) (s : S) :
    iprop(bigSepL l P ∗ J l s) ⊢ bwp d (foldP f s l) fun s' => iprop(bigSepL l Q ∗ J [] s') := by
  induction l generalizing s with
  | nil =>
    unfold foldP bwp
    rw [wp_ret]; iintro H; imodintro; iexact H
  | cons i l ih =>
    unfold foldP bwp
    rw [bigSepL_cons', bigSepL_cons']
    show _ ⊢ wp _ _ _ (f s i >>= fun s' => foldP f s' l) _
    rw [wp_bind]
    iintro ⟨⟨Hi, Hl⟩, HJ⟩
    ihave H := (hstep i l s List.mem_cons_self) $$ [Hi HJ]
    · isplitl [Hi] <;> iassumption
    iapply (wp_wand _ _ _) $$ H
    iintro %s' ⟨HQ, HJ⟩
    ihave H := (ih (fun j l' s hj => hstep j l' s (List.mem_cons_of_mem _ hj)) s') $$ [Hl HJ]
    · isplitl [Hl] <;> iassumption
    iapply (wp_wand _ _ _) $$ H
    iintro %s'' ⟨HQ', HJ⟩
    isplitr [HJ]
    · isplitl [HQ] <;> iassumption
    iexact HJ

end Cert.KernelIdeal.Softmax
-- ==== Proof.KernelIdealLoops.lean ====
/- The loops of the kernel of version v06, one by one. -/
module

public import proofs.«01_k».proof.Proof.KernelIdealSteps

@[expose] public section

noncomputable section

namespace Cert.KernelIdeal.Softmax

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ UU ℕ

variable (m : (ℓ : Loc nD τ sig) → Buf (Elt F) ℓ) (ρ : Dev nD → PrngReg)

/-! ## What a send borrows, by part -/

/-- A copy over x borrows the first share of a computed tile. -/
theorem sendPay_x (d : Dev nD) (r r' : Slot) (ha : ax r = .x) (hs : src r = r') : sendPay m ρ d r = lpts m ρ d shA r' := by
  subst hs; unfold sendPay sendV lpts srcM; rw [if_pos ha, ha]; rfl
/-- A copy over y borrows the first share of a received tile. -/
theorem sendPay_y (d : Dev nD) (r r' : Slot) (ha : ax r = .y) (hs : src r = r') : sendPay m ρ d r = rpts m ρ d shA r' := by
  subst hs; unfold sendPay sendV rpts srcM; rw [if_neg (by rw [ha]; exact fun h => by cases h), ha]; rfl
/-- A copy over z borrows the second share of a received tile. -/
theorem sendPay_z (d : Dev nD) (r r' : Slot) (ha : ax r = .z) (hs : src r = r') : sendPay m ρ d r = rpts m ρ d shB r' := by
  subst hs; unfold sendPay sendV rpts srcM; rw [if_neg (by rw [ha]; exact fun h => by cases h), ha]; rfl

/-- The copies of the home part over x borrow from the computed home part. -/
theorem sendPay_0 (d : Dev nD) (k : Fin 8) : sendPay m ρ d (0, k) = lpts m ρ d shA (0, k) :=
  sendPay_x m ρ d _ _ rfl (by revert k; decide)
/-- The copies over z borrow from the received home part. -/
theorem sendPay_1 (d : Dev nD) (k : Fin 8) : sendPay m ρ d (1, k) = rpts m ρ d shB (0, k) :=
  sendPay_z m ρ d _ _ rfl (by revert k; decide)
/-- The copies over y borrow from the received home part. -/
theorem sendPay_2 (d : Dev nD) (k : Fin 8) : sendPay m ρ d (2, k) = rpts m ρ d shA (0, k) :=
  sendPay_y m ρ d _ _ rfl (by revert k; decide)
/-- The diagonal copies over x borrow from the computed diagonal part. -/
theorem sendPay_3x (d : Dev nD) (k : Fin 8) (hk : k ∈ ([0, 1, 2, 3] : List (Fin 8))) : sendPay m ρ d (3, k) = lpts m ρ d shA (3, k) :=
  sendPay_x m ρ d _ _ (by revert k; decide) (by revert k; decide)
/-- The diagonal copies over y borrow from the received part 1. -/
theorem sendPay_3y (d : Dev nD) (k : Fin 8) (hk : k ∈ ([4, 5] : List (Fin 8))) : sendPay m ρ d (3, k) = rpts m ρ d shA (1, k) :=
  sendPay_y m ρ d _ _ (by revert k; decide) (by revert k; decide)
/-- The diagonal copies over z borrow from the received part 2. -/
theorem sendPay_3z (d : Dev nD) (k : Fin 8) (hk : k ∈ ([6, 7] : List (Fin 8))) : sendPay m ρ d (3, k) = rpts m ρ d shB (2, k) :=
  sendPay_z m ρ d _ _ (by revert k; decide) (by revert k; decide)

/-! ## The uses of the tiles, in their order -/

/-- The tile a use reads: `(true, r)` is the received tile `r`, `(false, r)` the computed one. -/
def useT (d : Dev nD) (b : Bool × Slot) : Vec F S1x1x256x128 .f32 :=
  if b.1 then rtileV m ρ d b.2 else tileV m ρ d (absP d b.2.1) b.2.2

/-- One use, on values. -/
def useB (d : Dev nD) (a : Acc F) (b : Bool × Slot) : Acc F :=
  useV (if b.1 then other d else own d) (absP d b.2.1) b.2.2 (useT m ρ d b) a

/-- The four loops of uses: first all the computed tiles. -/
def usesD (d : Dev nD) : List (Bool × Slot) := (tiles (inOrder d)).map fun r => (false, r)
/-- Then the received home part. -/
def usesE (l : List (Fin 8)) : List (Bool × Slot) := l.map fun k => (true, (0, k))
/-- Then the parts received over z and over y. -/
def usesF (l : List (Fin 8)) : List (Bool × Slot) := l.flatMap fun k => [(true, (1, k)), (true, (2, k))]
/-- Then the received diagonal part. -/
def usesG (l : List (Fin 8)) : List (Bool × Slot) := l.map fun k => (true, (3, k))
/-- All the uses in their order. -/
def uses (d : Dev nD) : List (Bool × Slot) := usesD d ++ (usesE chunks ++ (usesF chunks ++ usesG chunks))

/-- The running state, from which the uses of `l` still to come lead to `fin`. -/
def accE (d : Dev nD) (l : List (Bool × Slot)) (fin : Acc F) (s : FVec F S256x1 .f32) : sProp 𝕄 :=
  iprop(∃ f : Vec F S256x8192 .f32, ⌜l.foldl (useB m ρ d) (s, f) = fin⌝ ∗ oPts d f)

/-- One use of a computed tile is one step towards `fin`. -/
theorem useL_spec (d : Dev nD) (r : Slot) (l : List (Bool × Slot)) (fin : Acc F) (s : FVec F S256x1 .f32) :
    iprop(lpts m ρ d shC r ∗ accE m ρ d ((false, r) :: l) fin s)
      ⊢ bwp d (useOp lM (own d) d s r) fun s' => iprop(lpts m ρ d shC r ∗ accE m ρ d l fin s') := by
  unfold accE lpts
  iintro ⟨Ht, %f, %hf, Ho⟩
  ihave H := (useOp_spec lM (own d) d r (s, f) (tileV m ρ d (absP d r.1) r.2)) $$ [Ht Ho]
  · isplitl [Ht] <;> iassumption
  iapply (wp_wand _ _ _) $$ H
  iintro %s' ⟨Ht, %hs, Ho⟩
  isplitl [Ht]; · iexact Ht
  iexists _
  isplitr
  swap; · iexact Ho
  ipureintro; rw [hs]; exact hf

/-- One use of a received tile is one step towards `fin`. -/
theorem useR_spec (d : Dev nD) (r : Slot) (l : List (Bool × Slot)) (fin : Acc F) (s : FVec F S256x1 .f32) :
    iprop(rpts m ρ d shC r ∗ accE m ρ d ((true, r) :: l) fin s)
      ⊢ bwp d (useOp rM (other d) d s r) fun s' => iprop(rpts m ρ d shC r ∗ accE m ρ d l fin s') := by
  unfold accE rpts
  iintro ⟨Ht, %f, %hf, Ho⟩
  ihave H := (useOp_spec rM (other d) d r (s, f) (rtileV m ρ d r)) $$ [Ht Ho]
  · isplitl [Ht] <;> iassumption
  iapply (wp_wand _ _ _) $$ H
  iintro %s' ⟨Ht, %hs, Ho⟩
  isplitl [Ht]; · iexact Ht
  iexists _
  isplitr
  swap; · iexact Ho
  ipureintro; rw [hs]; exact hf

/-! ## The loops -/

variable (K : Dev nD × CK → ℕ)

/-- What every step may read. -/
def ctx : sProp 𝕄 := iprop(records m ρ K ∗ levAts L lv)
/-- What every step may read may be read any number of times. -/
instance ctx_persistent : BI.Persistent (ctx m ρ K) := by unfold ctx; infer_instance
/-- Every step may read the records. -/
theorem ctx_rec : ctx m ρ K ⊢ records m ρ K := by unfold ctx; iintro ⟨H, -⟩; iexact H
/-- Every step may read the levels. -/
theorem ctx_lev : ctx m ρ K ⊢ levAts L lv := by unfold ctx; iintro ⟨-, H⟩; iexact H

/-- The resources of a send but for the tile it borrows. -/
def sres (d : Dev nD) (r : Slot) : sProp 𝕄 := iprop(rraw (F := F) (peer (ax r) d) r ∗ stoks (F := F) d r)

/-- A send, its resources gathered. -/
theorem sendOp_spec' (d : Dev nD) (r : Slot) (l : List Slot) (T : sProp 𝕄) (hT : sendPay m ρ d r = T) :
    iprop(ctx m ρ K ∗ T ∗ sres (F := F) d r ∗ owesE (F := F) d (Osum d (r :: l)))
      ⊢ bwp d (sendOp d r) fun _ => iprop(scred (F := F) d r ∗ owesE (F := F) d (Osum d l)) := by
  subst hT
  unfold sres
  refine (show iprop(_ ∗ _ ∗ _ ∗ _) ⊢ _ from ?_).trans (sendOp_spec m ρ K d r l)
  iintro ⟨#HC, Ht, ⟨Hr, Hs⟩, HO⟩
  isplitr; · iapply (ctx_rec m ρ K); iexact HC
  isplitl [Ht]; · iexact Ht
  isplitl [Hr]; · iexact Hr
  isplitl [Hs] <;> iassumption

/-- A wait for a tile, the tile cut into its shares. -/
theorem recvOp_spec' (d : Dev nD) (r : Slot) (l : List Slot) (hl : ∀ r' ∈ l, rlev r < rlev r') :
    iprop(ctx m ρ K ∗ rcred (F := F) d r ∗ owesE (F := F) d (Osum d l))
      ⊢ bwp d (recvOp d r) fun _ => iprop((rpts m ρ d shA r ∗ rpts m ρ d shB r ∗ rpts m ρ d shC r) ∗ semVal (recvCell d r) 0 ∗ owesE (F := F) d (Osum d l)) := by
  refine (show iprop(_ ∗ _ ∗ _) ⊢ _ from ?_).trans ((recvOp_spec m ρ K d r l hl).trans (wp_mono _ _ _ fun _ => ?_))
  · iintro ⟨#HC, Hc, HO⟩
    isplitr; · iapply (ctx_rec m ρ K); iexact HC
    isplitr; · iapply (ctx_lev m ρ K); iexact HC
    isplitl [Hc] <;> iassumption
  · unfold rpts; rw [tpts_cut]

/-- The first loop: the home part's tiles, each computed and sent over x. -/
theorem loopA (d : Dev nD) (rest : List Slot) :
    iprop(bigSepL chunks (fun k => iprop(lraw (F := F) d (0, k) ∗ sres (F := F) d (0, k)))
        ∗ (ctx m ρ K ∗ wPts m ρ d ∗ owesE (F := F) d (Osum d (chunks.map (fun k => ((0, k) : Slot)) ++ rest))))
      ⊢ bwp d (foldP (fun (_ : PUnit) k => do mmOp d (xstg m ρ d) (0, k); sendOp d (0, k)) ⟨⟩ chunks) fun _ =>
          iprop(bigSepL chunks (fun k => iprop(lpts m ρ d shB (0, k) ∗ lpts m ρ d shC (0, k) ∗ scred (F := F) d (0, k)))
            ∗ (ctx m ρ K ∗ wPts m ρ d ∗ owesE (F := F) d (Osum d rest))) := by
  refine foldP_spec d _ _ _ (fun l _ => iprop(ctx m ρ K ∗ wPts m ρ d ∗ owesE (F := F) d (Osum d (l.map (fun k => ((0, k) : Slot)) ++ rest)))) chunks ?_ _
  intro k l s _
  show _ ⊢ wp _ _ _ (mmOp d (xstg m ρ d) (0, k) >>= fun _ => sendOp d (0, k)) _
  rw [wp_bind]
  iintro ⟨⟨Hl, Hs⟩, #HC, Hw, HO⟩
  ihave H := (mmOp_spec m ρ d (0, k)) $$ [Hl Hw]
  · isplitl [Hl] <;> iassumption
  iapply (wp_wand _ _ _) $$ H
  iintro %_ ⟨⟨HA, HB, HCs⟩, Hw⟩
  ihave H := (sendOp_spec' m ρ K d (0, k) (l.map (fun k => ((0, k) : Slot)) ++ rest) _ (sendPay_0 m ρ d k)) $$ [HA Hs HO]
  · isplitr; · iexact HC
    isplitl [HA]; · iexact HA
    isplitl [Hs]; · iexact Hs
    iexact HO
  iapply (wp_wand _ _ _) $$ H
  iintro %_ ⟨Hc, HO⟩
  isplitl [HB HCs Hc]
  · isplitl [HB]; · iexact HB
    isplitl [HCs] <;> iassumption
  isplitr; · iexact HC
  isplitl [Hw] <;> iassumption

/-- The rest of the products. -/
theorem loopB (d : Dev nD) (l : List Slot) :
    iprop(bigSepL l (lraw (F := F) d) ∗ wPts m ρ d)
      ⊢ bwp d (foldP (fun (_ : PUnit) r => mmOp d (xstg m ρ d) r) ⟨⟩ l) fun _ =>
          iprop(bigSepL l (fun r => iprop(lpts m ρ d shA r ∗ lpts m ρ d shB r ∗ lpts m ρ d shC r)) ∗ wPts m ρ d) :=
  foldP_spec d _ _ _ (fun _ _ => wPts m ρ d) l (fun r _ _ _ => mmOp_spec m ρ d r) _

/-- The diagonal part's first tiles, sent over x. -/
theorem loopC (d : Dev nD) (rest : List Slot) :
    iprop(bigSepL [0, 1, 2, 3] (fun k => iprop(lpts m ρ d shA (3, k) ∗ sres (F := F) d (3, k)))
        ∗ (ctx m ρ K ∗ owesE (F := F) d (Osum d (([0, 1, 2, 3] : List (Fin 8)).map (fun k => ((3, k) : Slot)) ++ rest))))
      ⊢ bwp d (foldP (fun (_ : PUnit) k => sendOp d (3, k)) ⟨⟩ [0, 1, 2, 3]) fun _ =>
          iprop(bigSepL [0, 1, 2, 3] (fun k => scred (F := F) d (3, k)) ∗ (ctx m ρ K ∗ owesE (F := F) d (Osum d rest))) := by
  refine foldP_spec d _ _ _ (fun l _ => iprop(ctx m ρ K ∗ owesE (F := F) d (Osum d (l.map (fun k => ((3, k) : Slot)) ++ rest)))) [0, 1, 2, 3] ?_ _
  intro k l s hk
  iintro ⟨⟨HA, Hs⟩, #HC, HO⟩
  ihave H := (sendOp_spec' m ρ K d (3, k) (l.map (fun k => ((3, k) : Slot)) ++ rest) _ (sendPay_3x m ρ d k hk)) $$ [HA Hs HO]
  · isplitr; · iexact HC
    isplitl [HA]; · iexact HA
    isplitl [Hs]; · iexact Hs
    iexact HO
  iapply (wp_wand _ _ _) $$ H
  iintro %_ ⟨Hc, HO⟩
  isplitl [Hc]; · iexact Hc
  isplitr; · iexact HC
  iexact HO

/-- The uses of the device's own tiles. -/
theorem loopD (d : Dev nD) (l : List Slot) (rest : List (Bool × Slot)) (fin : Acc F) (s : FVec F S256x1 .f32) :
    iprop(bigSepL l (lpts m ρ d shC) ∗ accE m ρ d (l.map (fun r => (false, r)) ++ rest) fin s)
      ⊢ bwp d (foldP (fun s r => useOp lM (own d) d s r) s l) fun s' => iprop(bigSepL l (lpts m ρ d shC) ∗ accE m ρ d rest fin s') :=
  foldP_spec d _ _ _ (fun l s => accE m ρ d (l.map (fun r => (false, r)) ++ rest) fin s) l
    (fun r l' s _ => useL_spec m ρ d r (l'.map (fun r => (false, r)) ++ rest) fin s) s

/-- The sends of the arrived part, chunk by chunk. -/
def fwd (l : List (Fin 8)) : List Slot := l.flatMap fun k => [(2, k), (1, k)]

/-- While the home part is forwarded, every tile still owed has a level above 2. -/
theorem fwd_late (l : List (Fin 8)) : ∀ r ∈ fwd l ++ sends₄, 2 < rlev r := by
  intro r hr
  rcases List.mem_append.mp hr with h | h
  · obtain ⟨k, _, hk⟩ := List.mem_flatMap.mp h
    rcases List.mem_cons.mp hk with rfl | hk
    · exact show 2 < 3 by decide
    · rw [List.mem_singleton.mp hk]; exact show 2 < 3 by decide
  · revert h; clear hr; revert r; decide

/-- The arrivals of part 0: forwarded over y and z, and used. -/
theorem loopE (d : Dev nD) (rest : List (Bool × Slot)) (fin : Acc F) (s : FVec F S256x1 .f32) :
    iprop(bigSepL chunks (fun k => iprop(rcred (F := F) d (0, k) ∗ sres (F := F) d (2, k) ∗ sres (F := F) d (1, k)))
        ∗ (ctx m ρ K ∗ owesE (F := F) d (Osum d (fwd chunks ++ sends₄)) ∗ accE m ρ d (usesE chunks ++ rest) fin s))
      ⊢ bwp d (foldP (fun s k => do recvOp d (0, k); sendOp d (2, k); sendOp d (1, k); useOp rM (other d) d s (0, k)) s chunks) fun s' =>
          iprop(bigSepL chunks (fun k => iprop(rpts m ρ d shC (0, k) ∗ semVal (recvCell d (0, k)) 0 ∗ scred (F := F) d (2, k) ∗ scred (F := F) d (1, k)))
            ∗ (ctx m ρ K ∗ owesE (F := F) d (Osum d sends₄) ∗ accE m ρ d rest fin s')) := by
  refine foldP_spec d _ _ _ (fun l s => iprop(ctx m ρ K ∗ owesE (F := F) d (Osum d (fwd l ++ sends₄)) ∗ accE m ρ d (usesE l ++ rest) fin s)) chunks ?_ s
  intro k l s _
  show _ ⊢ wp _ _ _ (recvOp d (0, k) >>= fun _ => sendOp d (2, k) >>= fun _ => sendOp d (1, k) >>= fun _ => useOp rM (other d) d s (0, k)) _
  rw [wp_bind]
  iintro ⟨⟨Hr, Hs2, Hs1⟩, #HC, HO, Hacc⟩
  ihave H := (recvOp_spec' m ρ K d (0, k) (fwd (k :: l) ++ sends₄) (fwd_late (k :: l))) $$ [Hr HO]
  · isplitr; · iexact HC
    isplitl [Hr] <;> iassumption
  iapply (wp_wand _ _ _) $$ H
  iintro %_ ⟨⟨HA, HB, HCs⟩, Hz, HO⟩
  rw [wp_bind]
  ihave H := (sendOp_spec' m ρ K d (2, k) ((1, k) :: (fwd l ++ sends₄)) _ (sendPay_2 m ρ d k)) $$ [HA Hs2 HO]
  · isplitr; · iexact HC
    isplitl [HA]; · iexact HA
    isplitl [Hs2]; · iexact Hs2
    iexact HO
  iapply (wp_wand _ _ _) $$ H
  iintro %_ ⟨Hc2, HO⟩
  rw [wp_bind]
  ihave H := (sendOp_spec' m ρ K d (1, k) (fwd l ++ sends₄) _ (sendPay_1 m ρ d k)) $$ [HB Hs1 HO]
  · isplitr; · iexact HC
    isplitl [HB]; · iexact HB
    isplitl [Hs1]; · iexact Hs1
    iexact HO
  iapply (wp_wand _ _ _) $$ H
  iintro %_ ⟨Hc1, HO⟩
  ihave H := (useR_spec m ρ d (0, k) (usesE l ++ rest) fin s) $$ [HCs Hacc]
  · isplitl [HCs]; · iexact HCs
    iexact Hacc
  iapply (wp_wand _ _ _) $$ H
  iintro %s' ⟨HCs, Hacc⟩
  isplitr [HO Hacc]
  · isplitl [HCs]; · iexact HCs
    isplitl [Hz]; · iexact Hz
    isplitl [Hc2] <;> iassumption
  isplitr; · iexact HC
  isplitl [HO] <;> iassumption

/-- The last sends still owed when the chunks of `l` are still to arrive. -/
def lastOwed (l : List (Fin 8)) : List Slot := (l.filter fun k => 4 ≤ k.val).map fun k => (3, k)

/-- The last tiles owed have a level above 3. -/
theorem lastOwed_late (l : List (Fin 8)) : ∀ r ∈ lastOwed l, 3 < rlev r := by
  intro r hr
  obtain ⟨k, hk, rfl⟩ := List.mem_map.mp hr
  have h : 4 ≤ k.val := of_decide_eq_true (List.mem_filter.mp hk).2
  show 3 < (if k.val < 4 then 2 else 4)
  rw [if_neg (by omega)]; decide

/-- The last sends owed before a chunk: that chunk's own, if it is forwarded, and those after it. -/
theorem lastOwed_cons (k : Fin 8) (l : List (Fin 8)) : lastOwed (k :: l) = if k = 4 ∨ k = 5 then (3, k) :: (if k = 6 ∨ k = 7 then (3, k) :: lastOwed l else lastOwed l)
    else (if k = 6 ∨ k = 7 then (3, k) :: lastOwed l else lastOwed l) := by
  have h (k : Fin 8) : (4 ≤ k.val ↔ (k = 4 ∨ k = 5) ∨ k = 6 ∨ k = 7) ∧ ¬ ((k = 4 ∨ k = 5) ∧ (k = 6 ∨ k = 7)) := by revert k; decide
  unfold lastOwed
  rw [List.filter_cons]
  by_cases h1 : k = 4 ∨ k = 5
  · rw [if_pos h1, if_neg (fun h2 => (h k).2 ⟨h1, h2⟩), if_pos (decide_eq_true ((h k).1.mpr (.inl h1)))]; rfl
  · rw [if_neg h1]
    by_cases h2 : k = 6 ∨ k = 7
    · rw [if_pos h2, if_pos (decide_eq_true ((h k).1.mpr (.inr h2)))]; rfl
    · rw [if_neg h2, if_neg (fun h3 => by rcases (h k).1.mp (of_decide_eq_true h3) with h | h <;> contradiction)]

/-- A send under a condition: what it borrows is lent, or kept. -/
theorem sendIf_spec (d : Dev nD) (r : Slot) (b : Prop) [Decidable b] (l l' : List Slot) (T : sProp 𝕄)
    (hT : b → sendPay m ρ d r = T) (hl : l = if b then r :: l' else l') :
    iprop(ctx m ρ K ∗ T ∗ (if b then sres (F := F) d r else iprop(emp)) ∗ owesE (F := F) d (Osum d l))
      ⊢ bwp d (if b then sendOp d r else .ret ⟨⟩) fun _ => iprop((if b then scred (F := F) d r else T) ∗ owesE (F := F) d (Osum d l')) := by
  subst hl
  by_cases hb : b
  · simp only [if_pos hb]; exact sendOp_spec' m ρ K d r l' T (hT hb)
  · simp only [if_neg hb]
    unfold bwp; rw [wp_ret]
    iintro ⟨-, HT, -, HO⟩; imodintro
    isplitl [HT] <;> iassumption

/-- The arrivals of parts 1 and 2: some forwarded, all used. -/
theorem loopF (d : Dev nD) (rest : List (Bool × Slot)) (fin : Acc F) (s : FVec F S256x1 .f32) :
    iprop(bigSepL chunks (fun k => iprop(rcred (F := F) d (1, k) ∗ rcred (F := F) d (2, k)
          ∗ (if k = 4 ∨ k = 5 then sres (F := F) d (3, k) else iprop(emp)) ∗ (if k = 6 ∨ k = 7 then sres (F := F) d (3, k) else iprop(emp))))
        ∗ (ctx m ρ K ∗ owesE (F := F) d (Osum d (lastOwed chunks)) ∗ accE m ρ d (usesF chunks ++ rest) fin s))
      ⊢ bwp d (foldP (fun s k => do
          recvOp d (1, k)
          (if k = 4 ∨ k = 5 then sendOp d (3, k) else .ret ⟨⟩)
          recvOp d (2, k)
          (if k = 6 ∨ k = 7 then sendOp d (3, k) else .ret ⟨⟩)
          let s ← useOp rM (other d) d s (1, k)
          useOp rM (other d) d s (2, k)) s chunks) fun s' =>
          iprop(bigSepL chunks (fun k => iprop((rpts m ρ d shB (1, k) ∗ rpts m ρ d shC (1, k) ∗ semVal (recvCell d (1, k)) 0)
              ∗ (rpts m ρ d shA (2, k) ∗ rpts m ρ d shC (2, k) ∗ semVal (recvCell d (2, k)) 0)
              ∗ (if k = 4 ∨ k = 5 then scred (F := F) d (3, k) else rpts m ρ d shA (1, k))
              ∗ (if k = 6 ∨ k = 7 then scred (F := F) d (3, k) else rpts m ρ d shB (2, k))))
            ∗ (ctx m ρ K ∗ owesE (F := F) d 0 ∗ accE m ρ d rest fin s')) := by
  refine foldP_spec d _ _ _ (fun l s => iprop(ctx m ρ K ∗ owesE (F := F) d (Osum d (lastOwed l)) ∗ accE m ρ d (usesF l ++ rest) fin s)) chunks ?_ s
  intro k l s _
  show _ ⊢ wp _ _ _ (recvOp d (1, k) >>= fun _ => (if k = 4 ∨ k = 5 then sendOp d (3, k) else .ret ⟨⟩) >>= fun _ => recvOp d (2, k) >>= fun _ =>
    (if k = 6 ∨ k = 7 then sendOp d (3, k) else .ret ⟨⟩) >>= fun _ => useOp rM (other d) d s (1, k) >>= fun s => useOp rM (other d) d s (2, k)) _
  have h1 := lastOwed_cons k l
  rw [wp_bind]
  iintro ⟨⟨Hr1, Hr2, HsA, HsB⟩, #HC, HO, Hacc⟩
  ihave H := (recvOp_spec' m ρ K d (1, k) (lastOwed (k :: l)) (lastOwed_late (k :: l))) $$ [Hr1 HO]
  · isplitr; · iexact HC
    isplitl [Hr1] <;> iassumption
  iapply (wp_wand _ _ _) $$ H
  iintro %_ ⟨⟨HA1, HB1, HC1⟩, Hz1, HO⟩
  rw [wp_bind]
  ihave H := (sendIf_spec m ρ K d (3, k) (k = 4 ∨ k = 5) (lastOwed (k :: l)) (if k = 6 ∨ k = 7 then (3, k) :: lastOwed l else lastOwed l)
    (rpts m ρ d shA (1, k)) (fun h => sendPay_3y m ρ d k (by rcases h with rfl | rfl <;> decide)) h1) $$ [HA1 HsA HO]
  · isplitr; · iexact HC
    isplitl [HA1]; · iexact HA1
    isplitl [HsA] <;> iassumption
  iapply (wp_wand _ _ _) $$ H
  iintro %_ ⟨HA1, HO⟩
  rw [wp_bind]
  ihave H := (recvOp_spec' m ρ K d (2, k) (if k = 6 ∨ k = 7 then (3, k) :: lastOwed l else lastOwed l) (by
      intro r hr
      refine lastOwed_late (k :: l) r ?_
      rw [h1]
      by_cases h : k = 4 ∨ k = 5
      · rw [if_pos h]; exact List.mem_cons_of_mem _ hr
      · rw [if_neg h]; exact hr)) $$ [Hr2 HO]
  · isplitr; · iexact HC
    isplitl [Hr2] <;> iassumption
  iapply (wp_wand _ _ _) $$ H
  iintro %_ ⟨⟨HA2, HB2, HC2⟩, Hz2, HO⟩
  rw [wp_bind]
  ihave H := (sendIf_spec m ρ K d (3, k) (k = 6 ∨ k = 7) _ (lastOwed l)
    (rpts m ρ d shB (2, k)) (fun h => sendPay_3z m ρ d k (by rcases h with rfl | rfl <;> decide)) rfl) $$ [HB2 HsB HO]
  · isplitr; · iexact HC
    isplitl [HB2]; · iexact HB2
    isplitl [HsB] <;> iassumption
  iapply (wp_wand _ _ _) $$ H
  iintro %_ ⟨HB2, HO⟩
  rw [wp_bind]
  ihave H := (useR_spec m ρ d (1, k) ((true, (2, k)) :: (usesF l ++ rest)) fin s) $$ [HC1 Hacc]
  · isplitl [HC1]; · iexact HC1
    iexact Hacc
  iapply (wp_wand _ _ _) $$ H
  iintro %s' ⟨HC1, Hacc⟩
  ihave H := (useR_spec m ρ d (2, k) (usesF l ++ rest) fin s') $$ [HC2 Hacc]
  · isplitl [HC2]; · iexact HC2
    iexact Hacc
  iapply (wp_wand _ _ _) $$ H
  iintro %s'' ⟨HC2, Hacc⟩
  isplitr [HO Hacc]
  · isplitl [HB1 HC1 Hz1]
    · isplitl [HB1]; · iexact HB1
      isplitl [HC1] <;> iassumption
    isplitl [HA2 HC2 Hz2]
    · isplitl [HA2]; · iexact HA2
      isplitl [HC2] <;> iassumption
    isplitl [HA1] <;> iassumption
  isplitr; · iexact HC
  isplitl [HO] <;> iassumption

/-- The arrivals of the diagonal part: all used. -/
theorem loopG (d : Dev nD) (fin : Acc F) (s : FVec F S256x1 .f32) :
    iprop(bigSepL chunks (fun k => rcred (F := F) d (3, k)) ∗ (ctx m ρ K ∗ owesE (F := F) d 0 ∗ accE m ρ d (usesG chunks) fin s))
      ⊢ bwp d (foldP (fun s k => do recvOp d (3, k); useOp rM (other d) d s (3, k)) s chunks) fun s' =>
          iprop(bigSepL chunks (fun k => iprop((rpts m ρ d shA (3, k) ∗ rpts m ρ d shB (3, k) ∗ rpts m ρ d shC (3, k)) ∗ semVal (recvCell d (3, k)) 0))
            ∗ (ctx m ρ K ∗ owesE (F := F) d 0 ∗ accE m ρ d [] fin s')) := by
  refine foldP_spec d _ _ _ (fun l s => iprop(ctx m ρ K ∗ owesE (F := F) d 0 ∗ accE m ρ d (usesG l) fin s)) chunks ?_ s
  intro k l s _
  show _ ⊢ wp _ _ _ (recvOp d (3, k) >>= fun _ => useOp rM (other d) d s (3, k)) _
  rw [wp_bind]
  iintro ⟨Hr, #HC, HO, Hacc⟩
  ihave H := (recvOp_spec' m ρ K d (3, k) [] (fun r h => by cases h)) $$ [Hr HO]
  · isplitr; · iexact HC
    isplitl [Hr]; · iexact Hr
    iexact HO
  iapply (wp_wand _ _ _) $$ H
  iintro %_ ⟨⟨HA, HB, HCs⟩, Hz, HO⟩
  ihave H := (useR_spec m ρ d (3, k) (usesG l) fin s) $$ [HCs Hacc]
  · isplitl [HCs]; · iexact HCs
    iexact Hacc
  iapply (wp_wand _ _ _) $$ H
  iintro %s' ⟨HCs, Hacc⟩
  isplitr [HO Hacc]
  · isplitr [Hz]
    · isplitl [HA]; · iexact HA
      isplitl [HB] <;> iassumption
    iexact Hz
  isplitr; · iexact HC
  isplitl [HO]; · iexact HO
  iexact Hacc

/-- What the end of a send is waited by. -/
def dres (d : Dev nD) (r : Slot) : sProp 𝕄 := iprop(scred (F := F) d r ∗ atPos ER (sendCell d r) 0 ∅ 0)
/-- What the end of a send gives: the borrowed share, and the semaphore at zero. -/
def dback (d : Dev nD) (r : Slot) : sProp 𝕄 := iprop(sendPay m ρ d r ∗ semVal (sendCell d r) 0)

/-- Waiting for the end of a send gives the borrowed share back. -/
theorem doneOp_spec' (d : Dev nD) (r : Slot) :
    iprop(dres (F := F) d r ∗ (ctx m ρ K ∗ owesE (F := F) d 0)) ⊢ bwp d (doneOp d r) fun _ => iprop(dback m ρ d r ∗ (ctx m ρ K ∗ owesE (F := F) d 0)) := by
  unfold dres dback
  iintro ⟨Hd, #HC, HO⟩
  ihave H := (doneOp_spec m ρ K d r) $$ [Hd HO]
  · isplitr; · iapply (ctx_rec m ρ K); iexact HC
    isplitl [Hd] <;> iassumption
  iapply (wp_wand _ _ _) $$ H
  iintro %_ ⟨Hb, HO⟩
  isplitl [Hb]; · iexact Hb
  isplitr; · iexact HC
  iexact HO

/-- The waits for the ends of the sends of one part. -/
theorem loopDone (d : Dev nD) (q : Fin 4) (l : List (Fin 8)) :
    iprop(bigSepL l (fun k => dres (F := F) d (q, k)) ∗ (ctx m ρ K ∗ owesE (F := F) d 0))
      ⊢ bwp d (foldP (fun (_ : PUnit) k => doneOp d (q, k)) ⟨⟩ l) fun _ =>
          iprop(bigSepL l (fun k => dback m ρ d (q, k)) ∗ (ctx m ρ K ∗ owesE (F := F) d 0)) :=
  foldP_spec d _ _ _ (fun _ _ => iprop(ctx m ρ K ∗ owesE (F := F) d 0)) l (fun k _ _ _ => doneOp_spec' m ρ K d (q, k)) _

/-- The waits for the ends of the forwards. -/
theorem loopDone₂ (d : Dev nD) (l : List (Fin 8)) :
    iprop(bigSepL l (fun k => iprop(dres (F := F) d (2, k) ∗ dres (F := F) d (1, k))) ∗ (ctx m ρ K ∗ owesE (F := F) d 0))
      ⊢ bwp d (foldP (fun (_ : PUnit) k => do doneOp d (2, k); doneOp d (1, k)) ⟨⟩ l) fun _ =>
          iprop(bigSepL l (fun k => iprop(dback m ρ d (2, k) ∗ dback m ρ d (1, k))) ∗ (ctx m ρ K ∗ owesE (F := F) d 0)) := by
  refine foldP_spec d _ _ _ (fun _ _ => iprop(ctx m ρ K ∗ owesE (F := F) d 0)) l ?_ _
  intro k l' s _
  show _ ⊢ wp _ _ _ (doneOp d (2, k) >>= fun _ => doneOp d (1, k)) _
  rw [wp_bind]
  iintro ⟨⟨H2, H1⟩, HJ⟩
  ihave H := (doneOp_spec' m ρ K d (2, k)) $$ [H2 HJ]
  · isplitl [H2] <;> iassumption
  iapply (wp_wand _ _ _) $$ H
  iintro %_ ⟨H2, HJ⟩
  ihave H := (doneOp_spec' m ρ K d (1, k)) $$ [H1 HJ]
  · isplitl [H1] <;> iassumption
  iapply (wp_wand _ _ _) $$ H
  iintro %_ ⟨H1, HJ⟩
  isplitr [HJ]
  · isplitl [H2] <;> iassumption
  iexact HJ

end Cert.KernelIdeal.Softmax
-- ==== Proof.KernelIdealOut.lean ====
/- The result of the kernel of version v06 as one function of what its devices hold. -/
module

public import proofs.«01_k».proof.Proof.KernelIdealLoops

@[expose] public section

noncomputable section

namespace Cert.KernelIdeal.Softmax

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ UU ℕ

variable (m : (ℓ : Loc nD τ sig) → Buf (Elt F) ℓ) (ρ : Dev nD → PrngReg)

/-- A device's tile of logits by its half, part and chunk: computed or received. -/
def theT (d : Dev nD) (h : Fin 2) (p : Fin 4) (k : Fin 8) : Vec F S1x1x256x128 .f32 :=
  if h = own d then tileV m ρ d p k else rtileV m ρ d ((absE d).symm (p, k))

/-- The place inside its tile of an element of the result. -/
def locI (i : S256x8192.Idx) : S256x128.Idx := fun a => ⟨(i a).val % S256x128.size a, Nat.mod_lt _ (by fin_cases a <;> decide)⟩

/-- The half of the columns of an element of the result. -/
def colH (i : S256x8192.Idx) : Fin 2 := ⟨(i (1 : Fin 2)).val / 4096, by have h := (i (1 : Fin 2)).isLt; change _ < 8192 at h; omega⟩
/-- The part of its half of an element of the result. -/
def colP (i : S256x8192.Idx) : Fin 4 := ⟨(i (1 : Fin 2)).val / 1024 % 4, by omega⟩
/-- The chunk of its part of an element of the result. -/
def colK (i : S256x8192.Idx) : Fin 8 := ⟨(i (1 : Fin 2)).val / 128 % 8, by omega⟩

/-- The exponentials of all logits, as the uses leave them. -/
def outE (d : Dev nD) : Vec F S256x8192 .f32 := fun i => expPay (theT m ρ d (colH i) (colP i) (colK i)) (locI i)

/-- Where an element of a tile's block lies in the result. -/
theorem emb_out (h : Fin 2) (p : Fin 4) (k : Fin 8) (j : S256x128.Idx) (a : Fin 2) :
    ((oM.access (outRect h p k) : View sig .tc .vmem S256x128 .f32).emb j a).val = (![0, 4096 * h.val + 1024 * p.val + 128 * k.val] : Fin 2 → ℕ) a + (j a).val := by
  show (Rect.emb (outRect h p k) j a).val = _
  rw [Rect.emb_apply]
  show _ + 1 * _ = _
  rw [Nat.one_mul]; rfl

/-- An element of a tile's block has that tile's half, part and chunk, and its own place inside the tile. -/
theorem emb_coords (h : Fin 2) (p : Fin 4) (k : Fin 8) (j : S256x128.Idx) :
    colH ((oM.access (outRect h p k) : View sig .tc .vmem S256x128 .f32).emb j) = h
      ∧ colP ((oM.access (outRect h p k) : View sig .tc .vmem S256x128 .f32).emb j) = p
      ∧ colK ((oM.access (outRect h p k) : View sig .tc .vmem S256x128 .f32).emb j) = k
      ∧ locI ((oM.access (outRect h p k) : View sig .tc .vmem S256x128 .f32).emb j) = j := by
  have e0 := emb_out h p k j 0
  have e1 := emb_out h p k j 1
  have j0 : (j (0 : Fin 2)).val < 256 := (j (0 : Fin 2)).isLt
  have j1 : (j (1 : Fin 2)).val < 128 := (j (1 : Fin 2)).isLt
  have hh := h.isLt; have hp := p.isLt; have hk := k.isLt
  change _ = 0 + (j (0 : Fin 2)).val at e0
  change _ = 4096 * h.val + 1024 * p.val + 128 * k.val + (j (1 : Fin 2)).val at e1
  refine ⟨Fin.ext ?_, Fin.ext ?_, Fin.ext ?_, funext fun a => Fin.ext ?_⟩
  · show _ / 4096 = h.val; rw [e1]; omega
  · show _ / 1024 % 4 = p.val; rw [e1]; omega
  · show _ / 128 % 8 = k.val; rw [e1]; omega
  · fin_cases a
    · exact (congrArg (· % 256) e0).trans (by show _ % 256 = (j (0 : Fin 2)).val; omega)
    · exact (congrArg (· % 128) e1).trans (by show _ % 128 = (j (1 : Fin 2)).val; omega)

/-- The two halves differ. -/
theorem other_ne (d : Dev nD) : other d ≠ own d := by revert d; decide

/-- A use's tile is the tile of its columns. -/
theorem useT_eq (d : Dev nD) (b : Bool × Slot) : useT m ρ d b = theT m ρ d (if b.1 then other d else own d) (absP d b.2.1) b.2.2 := by
  obtain ⟨b, r⟩ := b
  cases b
  · unfold useT theT; rw [if_neg Bool.false_ne_true, if_neg Bool.false_ne_true, if_pos rfl]
  · unfold useT theT; rw [if_pos rfl, if_pos rfl, if_neg (other_ne d)]
    rw [show (absE d).symm (absP d r.1, r.2) = r from (absE d).symm_apply_apply r]

/-- The uses of a list, at an element one of them covers or that already holds its exponential. -/
theorem uses_out (d : Dev nD) (l : List (Bool × Slot)) (a : Acc F) (i : S256x8192.Idx)
    (hi : (∃ b ∈ l, (if b.1 then other d else own d) = colH i ∧ absP d b.2.1 = colP i ∧ b.2.2 = colK i) ∨ a.2 i = outE m ρ d i) :
    (l.foldl (useB m ρ d) a).2 i = outE m ρ d i := by
  induction l generalizing a with
  | nil => rcases hi with ⟨b, hb, _⟩ | h
           · cases hb
           · exact h
  | cons b l ih =>
    refine ih _ ?_
    by_cases hc : (if b.1 then other d else own d) = colH i ∧ absP d b.2.1 = colP i ∧ b.2.2 = colK i
    · refine .inr ?_
      obtain ⟨h1, h2, h3⟩ := hc
      have hi1 : (i (1 : Fin 2)).val < 8192 := (i (1 : Fin 2)).isLt
      have hi0 : (i (0 : Fin 2)).val < 256 := (i (0 : Fin 2)).isLt
      have he : i = (oM.access (outRect (if b.1 then other d else own d) (absP d b.2.1) b.2.2) : View sig .tc .vmem S256x128 .f32).emb (locI i) := by
        funext a
        refine Fin.ext ?_
        rw [emb_out, h1, h2, h3]
        fin_cases a
        · show (i (0 : Fin 2)).val = 0 + (i (0 : Fin 2)).val % 256; omega
        · show (i (1 : Fin 2)).val = 4096 * ((i (1 : Fin 2)).val / 4096) + 1024 * ((i (1 : Fin 2)).val / 1024 % 4) + 128 * ((i (1 : Fin 2)).val / 128 % 8) + (i (1 : Fin 2)).val % 128; omega
      unfold useB useV
      dsimp only
      conv => lhs; rw [he]
      rw [View.write_emb_of_mem _ _ (Finset.mem_univ _), useT_eq, h1, h2, h3]
      rfl
    · rcases hi with ⟨b', hb', hc'⟩ | h
      · rcases List.mem_cons.mp hb' with rfl | hb'
        · exact absurd hc' hc
        · exact .inl ⟨b', hb', hc'⟩
      · refine .inr ?_
        unfold useB useV
        dsimp only
        rw [View.write_of_not_mem _ _ _ ?_]
        · exact h
        · intro hm
          rw [View.setOn_univ] at hm
          obtain ⟨j, -, rfl⟩ := Finset.mem_map.mp (show i ∈ Finset.univ.map _ from hm)
          obtain ⟨h1, h2, h3, -⟩ := emb_coords (if b.1 then other d else own d) (absP d b.2.1) b.2.2 j
          exact hc ⟨h1.symm, h2.symm, h3.symm⟩

/-- Every tile is used. -/
theorem uses_all (d : Dev nD) (h : Fin 2) (p : Fin 4) (k : Fin 8) :
    ∃ b ∈ uses d, (if b.1 then other d else own d) = h ∧ absP d b.2.1 = p ∧ b.2.2 = k := by
  have hq : ∀ (d : Dev nD) (q : Fin 4) (k : Fin 8), (false, (q, k)) ∈ uses d ∧ (true, (q, k)) ∈ uses d := by decide +kernel
  have hd : h = own d ∨ h = other d := by revert d h; decide
  rcases hd with rfl | rfl
  · exact ⟨(false, (absP d p, k)), (hq d _ k).1, rfl, xorP_self _ _, rfl⟩
  · exact ⟨(true, (absP d p, k)), (hq d _ k).2, rfl, xorP_self _ _, rfl⟩

/-- The row sums the uses leave. -/
def sumE (d : Dev nD) : FVec F S256x1 .f32 := ((uses d).map (useT m ρ d)).foldl sumPay zeroPay

/-- The row sums after some uses are those of the tiles used. -/
theorem uses_sum (d : Dev nD) (l : List (Bool × Slot)) (a : Acc F) : (l.foldl (useB m ρ d) a).1 = (l.map (useT m ρ d)).foldl sumPay a.1 := by
  induction l generalizing a with
  | nil => rfl
  | cons b l ih => exact ih _

/-- All the uses, from any contents of the result. -/
theorem uses_eq (d : Dev nD) (f : Vec F S256x8192 .f32) : (uses d).foldl (useB m ρ d) (zeroPay, f) = (sumE m ρ d, outE m ρ d) :=
  Prod.ext (uses_sum m ρ d (uses d) (zeroPay, f))
    (funext fun i => uses_out m ρ d (uses d) (zeroPay, f) i (.inl (uses_all d (colH i) (colP i) (colK i))))

/-- The kernel's result on device `d`: every exponential times the reciprocal of its row's sum. -/
def outAt (d : Dev nD) : Vec F S256x8192 .f32 := k0_pay144 (sumE m ρ d) (outE m ρ d)

end Cert.KernelIdeal.Softmax
-- ==== Proof.KernelIdealWhole.lean ====
/- The tiles of the kernel of version v06 gathered by part, and its two buffers cut into tiles and joined again. -/
module

public import proofs.«01_k».proof.Proof.KernelIdealOut

@[expose] public section

noncomputable section

namespace Cert.KernelIdeal.Softmax

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ UU ℕ

variable (m : (ℓ : Loc nD τ sig) → Buf (Elt F) ℓ) (ρ : Dev nD → PrngReg)

/-! ## Sums over the tiles -/

omit [FloatOps F] in
/-- Two things for every member of a list are one for every member and the other for every member. -/
theorem bigSepL_sep {I : Type} (l : List I) (Φ Ψ : I → sProp 𝕄) : bigSepL l (fun i => iprop(Φ i ∗ Ψ i)) = iprop(bigSepL l Φ ∗ bigSepL l Ψ) := by
  induction l with
  | nil => exact (equiv_iff.mp emp_sep).symm
  | cons i l ih =>
    rw [bigSepL_cons', bigSepL_cons', bigSepL_cons', ih]
    have h₁ : iprop((Φ i ∗ Ψ i) ∗ bigSepL l Φ ∗ bigSepL l Ψ) ⊢ iprop((Φ i ∗ bigSepL l Φ) ∗ Ψ i ∗ bigSepL l Ψ) := by
      iintro ⟨⟨HA, HB⟩, HC, HD⟩
      isplitl [HA HC]
      · isplitl [HA] <;> iassumption
      isplitl [HB] <;> iassumption
    have h₂ : iprop((Φ i ∗ bigSepL l Φ) ∗ Ψ i ∗ bigSepL l Ψ) ⊢ iprop((Φ i ∗ Ψ i) ∗ bigSepL l Φ ∗ bigSepL l Ψ) := by
      iintro ⟨⟨HA, HC⟩, HB, HD⟩
      isplitl [HA HB]
      · isplitl [HA] <;> iassumption
      isplitl [HC] <;> iassumption
    exact BI.Entails.antisymm h₁ h₂

omit [FloatOps F] in
/-- Equal things for the members of a list are equal in all. -/
theorem bigSepL_congr {I : Type} {l : List I} {Φ Ψ : I → sProp 𝕄} (h : ∀ i ∈ l, Φ i = Ψ i) : bigSepL l Φ = bigSepL l Ψ :=
  BI.Entails.antisymm (bigSepL_mono fun i hi => Entails.of_eq (h i hi)) (bigSepL_mono fun i hi => Entails.of_eq (h i hi).symm)

omit [FloatOps F] in
/-- A sum over a list of different members does not mind their order. -/
theorem bigSepL_reorder {I : Type} [DecidableEq I] {l l' : List I} (h : l.Perm l') (hn : l.Nodup) (Φ : I → sProp 𝕄) : bigSepL l Φ = bigSepL l' Φ :=
  (bigSep_eq_bigSepL_of_eq l rfl hn Φ).symm.trans (bigSep_eq_bigSepL_of_eq l' (List.toFinset_eq_of_perm _ _ h) (h.nodup_iff.mp hn) Φ)

omit [FloatOps F] in
/-- The tiles of some parts, part by part. -/
theorem tiles_sum (l : List (Fin 4)) (Φ : Slot → sProp 𝕄) : bigSepL (tiles l) Φ = bigSepL l fun q => bigSepL chunks fun k => Φ (q, k) := by
  induction l with
  | nil => rfl
  | cons q l ih => rw [bigSepL_cons', ← ih, ← bigSepL_map (fun k => ((q, k) : Slot)), ← bigSepL_append]; rfl

omit [FloatOps F] in
/-- All tiles, part by part. -/
theorem slots_sum (Φ : Slot → sProp 𝕄) : bigSep Finset.univ Φ
    = iprop((bigSepL chunks fun k => Φ (0, k)) ∗ (bigSepL chunks fun k => Φ (1, k)) ∗ (bigSepL chunks fun k => Φ (2, k)) ∗ (bigSepL chunks fun k => Φ (3, k))) := by
  rw [bigSep_univ_eq_bigSepL (tiles [0, 1, 2, 3]) (by decide) (by decide), tiles_sum]; rfl

omit [FloatOps F] in
/-- All tiles, axis by axis. -/
theorem into_sum (Φ : Slot → sProp 𝕄) : bigSep Finset.univ Φ = iprop(bigSepL (into .x) Φ ∗ bigSepL (into .y) Φ ∗ bigSepL (into .z) Φ) := by
  rw [bigSep_univ_eq_bigSepL (into .x ++ (into .y ++ into .z)) (by decide) (by decide), bigSepL_append, bigSepL_append]

omit [FloatOps F] in
/-- The parts in their order. -/
theorem inOrder_sum (d : Dev nD) (Φ : Slot → sProp 𝕄) : bigSepL (tiles (inOrder d)) Φ
    = iprop((bigSepL chunks fun k => Φ (0, k)) ∗ (bigSepL chunks fun k => Φ (1, k)) ∗ (bigSepL chunks fun k => Φ (2, k)) ∗ (bigSepL chunks fun k => Φ (3, k))) := by
  rw [tiles_sum, bigSepL_reorder (l' := [0, 1, 2, 3]) (by revert d; decide) (by revert d; decide)]; rfl

omit [FloatOps F] in
/-- The later parts' tiles, part by part. -/
theorem later_sum (d : Dev nD) (Φ : Slot → sProp 𝕄) : bigSepL (tiles (later d)) Φ
    = iprop((bigSepL chunks fun k => Φ (1, k)) ∗ (bigSepL chunks fun k => Φ (2, k)) ∗ (bigSepL chunks fun k => Φ (3, k))) := by
  rw [tiles_sum, bigSepL_reorder (l' := [1, 2, 3]) (by revert d; decide) (by revert d; decide)]; rfl

omit [FloatOps F] in
/-- The chunks by the axis the diagonal part's tiles travel over. -/
theorem diag_sum (Φ : Fin 8 → sProp 𝕄) : bigSepL chunks Φ = iprop(bigSepL [0, 1, 2, 3] Φ ∗ bigSepL [4, 5] Φ ∗ bigSepL [6, 7] Φ) := by
  rw [show chunks = [0, 1, 2, 3] ++ ([4, 5] ++ [6, 7]) from rfl, bigSepL_append, bigSepL_append]

omit [FloatOps F] in
/-- The chunks with another thing for 4 and 5. -/
theorem if_y_sum (A B : Fin 8 → sProp 𝕄) : bigSepL chunks (fun k => if k = 4 ∨ k = 5 then A k else B k) = iprop(bigSepL [0, 1, 2, 3] B ∗ bigSepL [4, 5] A ∗ bigSepL [6, 7] B) := by
  rw [diag_sum]; rfl
omit [FloatOps F] in
/-- The chunks with another thing for 6 and 7. -/
theorem if_z_sum (A B : Fin 8 → sProp 𝕄) : bigSepL chunks (fun k => if k = 6 ∨ k = 7 then A k else B k) = iprop(bigSepL [0, 1, 2, 3] B ∗ bigSepL [4, 5] B ∗ bigSepL [6, 7] A) := by
  rw [diag_sum]; rfl
omit [FloatOps F] in
/-- Nothing for every member of a list is nothing. -/
theorem bigSepL_emp {I : Type} (l : List I) : (⊢ (bigSepL l fun _ => iprop(emp) : sProp 𝕄)) := by
  induction l with
  | nil => exact BI.Entails.refl _
  | cons i l ih => rw [bigSepL_cons']; isplitl; · iempintro
                   exact ih

/-! ## The tiles whole -/

/-- The three shares of a computed tile are the tile. -/
theorem lpts_join (d : Dev nD) (r : Slot) : iprop(lpts m ρ d shA r ∗ lpts m ρ d shB r ∗ lpts m ρ d shC r) ⊢ lraw (F := F) d r := by
  unfold lpts lraw; rw [← tpts_cut]; exact tpts_raw _ _ _ _ _
/-- The three shares of a received tile are the tile. -/
theorem rpts_join (d : Dev nD) (r : Slot) : iprop(rpts m ρ d shA r ∗ rpts m ρ d shB r ∗ rpts m ρ d shC r) ⊢ rraw (F := F) d r := by
  unfold rpts rraw; rw [← tpts_cut]; exact tpts_raw _ _ _ _ _

/-- The three shares of computed tiles are the tiles. -/
theorem lpts_joins (d : Dev nD) (q : Fin 4) (l : List (Fin 8)) :
    iprop((bigSepL l fun k => lpts m ρ d shA (q, k)) ∗ (bigSepL l fun k => lpts m ρ d shB (q, k)) ∗ (bigSepL l fun k => lpts m ρ d shC (q, k)))
      ⊢ bigSepL l fun k => lraw (F := F) d (q, k) := by
  rw [← bigSepL_sep, ← bigSepL_sep]; exact bigSepL_mono fun k _ => lpts_join m ρ d (q, k)
/-- The three shares of received tiles are the tiles. -/
theorem rpts_joins (d : Dev nD) (q : Fin 4) (l : List (Fin 8)) :
    iprop((bigSepL l fun k => rpts m ρ d shA (q, k)) ∗ (bigSepL l fun k => rpts m ρ d shB (q, k)) ∗ (bigSepL l fun k => rpts m ρ d shC (q, k)))
      ⊢ bigSepL l fun k => rraw (F := F) d (q, k) := by
  rw [← bigSepL_sep, ← bigSepL_sep]; exact bigSepL_mono fun k _ => rpts_join m ρ d (q, k)

/-! ## The buffers -/

/-- An element lies in a tile when its first two coordinates name it. -/
theorem mem_tile (p : Fin 4) (k : Fin 8) (i : S4x8x256x128.Idx) : i ∈ (tileRect p k).set ↔ (i (0 : Fin 4)).val = p.val ∧ (i (1 : Fin 4)).val = k.val := by
  rw [Rect.mem_set_unit]
  constructor
  · intro h
    have h0 : p.val ≤ (i (0 : Fin 4)).val ∧ (i (0 : Fin 4)).val < p.val + 1 := h 0
    have h1 : k.val ≤ (i (1 : Fin 4)).val ∧ (i (1 : Fin 4)).val < k.val + 1 := h 1
    omega
  · rintro ⟨h0, h1⟩ a
    have h2 : (i (2 : Fin 4)).val < 256 := (i (2 : Fin 4)).isLt
    have h3 : (i (3 : Fin 4)).val < 128 := (i (3 : Fin 4)).isLt
    fin_cases a
    · show p.val ≤ (i (0 : Fin 4)).val ∧ (i (0 : Fin 4)).val < p.val + 1; omega
    · show k.val ≤ (i (1 : Fin 4)).val ∧ (i (1 : Fin 4)).val < k.val + 1; omega
    · show 0 ≤ (i (2 : Fin 4)).val ∧ (i (2 : Fin 4)).val < 0 + 256; omega
    · show 0 ≤ (i (3 : Fin 4)).val ∧ (i (3 : Fin 4)).val < 0 + 128; omega

/-- Different tiles have no element in common. -/
theorem tiles_disjoint (d : Dev nD) (r r' : Slot) (h : r ≠ r') : Disjoint (tileRect (absP d r.1) r.2).set (tileRect (absP d r'.1) r'.2).set := by
  refine Finset.disjoint_left.mpr fun i hi hi' => h ?_
  obtain ⟨a, b⟩ := (mem_tile _ _ i).mp hi
  obtain ⟨a', b'⟩ := (mem_tile _ _ i).mp hi'
  exact (absE d).injective (Prod.ext (Fin.ext (a.symm.trans a')) (Fin.ext (b.symm.trans b')))

/-- The tiles are the whole buffer. -/
theorem tiles_cover (d : Dev nD) : (Finset.univ : Finset Slot).biUnion (fun r => (tileRect (absP d r.1) r.2).set) = Finset.univ := by
  ext i
  simp only [Finset.mem_biUnion, Finset.mem_univ, true_and, iff_true]
  refine ⟨(absP d ⟨(i (0 : Fin 4)).val, (i (0 : Fin 4)).isLt⟩, ⟨(i (1 : Fin 4)).val, (i (1 : Fin 4)).isLt⟩), (mem_tile _ _ i).mpr ⟨?_, rfl⟩⟩
  unfold absP; rw [xorP_self]

/-- The logits buffer held whole is held tile by tile. -/
theorem lbuf_split (d : Dev nD) : iprop(∃ f : Buf (Elt F) ((d : Thread nD τ).loc cc0_scratch0), ((d : Thread nD τ).loc cc0_scratch0) ↦{fullShare} f)
    ⊢ (bigSep Finset.univ fun r : Slot => lraw (F := F) d r : sProp 𝕄) := by
  iintro ⟨%f, H⟩
  have h (r : Slot) : (((d : Thread nD τ).loc cc0_scratch0) ↦[(tileRect (absP d r.1) r.2).set]{fullShare} f : sProp 𝕄) ⊢ lraw (F := F) d r := by
    unfold lraw traw
    rw [show (tv lM (absP d r.1) r.2).set = (tileRect (absP d r.1) r.2).set from View.set_slice_whole _ _]
    iintro H; iexists f; iexact H
  have h₁ := Ring.pointsTo_blocks (nD := nD) (τ := τ) (sig := sig) (Ix := Unit) (Val := Elt F) (Name := ℕ) (U := UU) (Lvl := ℕ) (q := fullShare) (ℓ := (d : Thread nD τ).loc cc0_scratch0)
    (fun r : Slot => (tileRect (absP d r.1) r.2).set) (tiles_disjoint d) (tiles_cover d) f
  ihave H := (Entails.of_eq h₁) $$ H
  have h₂ : (bigSep Finset.univ fun r : Slot => (((d : Thread nD τ).loc cc0_scratch0) ↦[(tileRect (absP d r.1) r.2).set]{fullShare} f : sProp 𝕄)) ⊢ bigSep Finset.univ (lraw (F := F) d) :=
    bigSep_mono fun r _ => h r
  iapply h₂; iexact H

/-- The receive buffer held whole is held tile by tile. -/
theorem rbuf_split (d : Dev nD) : iprop(∃ f : Buf (Elt F) ((d : Thread nD τ).loc cc0_scratch1), ((d : Thread nD τ).loc cc0_scratch1) ↦{fullShare} f)
    ⊢ (bigSep Finset.univ fun r : Slot => rraw (F := F) d r : sProp 𝕄) := by
  iintro ⟨%f, H⟩
  have h (r : Slot) : (((d : Thread nD τ).loc cc0_scratch1) ↦[(tileRect (absP d r.1) r.2).set]{fullShare} f : sProp 𝕄) ⊢ rraw (F := F) d r := by
    unfold rraw traw
    rw [show (tv rM (absP d r.1) r.2).set = (tileRect (absP d r.1) r.2).set from View.set_slice_whole _ _]
    iintro H; iexists f; iexact H
  have h₁ := Ring.pointsTo_blocks (nD := nD) (τ := τ) (sig := sig) (Ix := Unit) (Val := Elt F) (Name := ℕ) (U := UU) (Lvl := ℕ) (q := fullShare) (ℓ := (d : Thread nD τ).loc cc0_scratch1)
    (fun r : Slot => (tileRect (absP d r.1) r.2).set) (tiles_disjoint d) (tiles_cover d) f
  ihave H := (Entails.of_eq h₁) $$ H
  have h₂ : (bigSep Finset.univ fun r : Slot => (((d : Thread nD τ).loc cc0_scratch1) ↦[(tileRect (absP d r.1) r.2).set]{fullShare} f : sProp 𝕄)) ⊢ bigSep Finset.univ (rraw (F := F) d) :=
    bigSep_mono fun r _ => h r
  iapply h₂; iexact H

/-- The logits buffer held tile by tile is held whole. -/
theorem lbuf_join (d : Dev nD) : (bigSep Finset.univ fun r : Slot => lraw (F := F) d r : sProp 𝕄)
    ⊢ iprop(∃ f : Buf (Elt F) ((d : Thread nD τ).loc cc0_scratch0), ((d : Thread nD τ).loc cc0_scratch0) ↦{fullShare} f) := by
  refine (bigSep_mono (fun r _ => ?_)).trans (Ring.pointsTo_blocks_join_exists (fun r : Slot => (tileRect (absP d r.1) r.2).set) (tiles_disjoint d) (tiles_cover d) (Classical.arbitrary _))
  unfold lraw traw
  rw [show (tv lM (absP d r.1) r.2).set = (tileRect (absP d r.1) r.2).set from View.set_slice_whole _ _]
  exact BI.Entails.refl _

/-- The receive buffer held tile by tile is held whole. -/
theorem rbuf_join (d : Dev nD) : (bigSep Finset.univ fun r : Slot => rraw (F := F) d r : sProp 𝕄)
    ⊢ iprop(∃ f : Buf (Elt F) ((d : Thread nD τ).loc cc0_scratch1), ((d : Thread nD τ).loc cc0_scratch1) ↦{fullShare} f) := by
  refine (bigSep_mono (fun r _ => ?_)).trans (Ring.pointsTo_blocks_join_exists (fun r : Slot => (tileRect (absP d r.1) r.2).set) (tiles_disjoint d) (tiles_cover d) (Classical.arbitrary _))
  unfold rraw traw
  rw [show (tv rM (absP d r.1) r.2).set = (tileRect (absP d r.1) r.2).set from View.set_slice_whole _ _]
  exact BI.Entails.refl _

end Cert.KernelIdeal.Softmax
-- ==== Proof.KernelIdealRun.lean ====
/- The body of the kernel of version v06 on one device, from what the device starts with to what it ends with. -/
module

public import proofs.«01_k».proof.Proof.KernelIdealWhole

@[expose] public section

noncomputable section

namespace Cert.KernelIdeal.Softmax

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ UU ℕ

variable (m : (ℓ : Loc nD τ sig) → Buf (Elt F) ℓ) (ρ : Dev nD → PrngReg)

variable (K : Dev nD × CK → ℕ)

/-- The staging buffer of x. -/
def xPts (d : Dev nD) : sProp 𝕄 := ((d : Thread nD τ).loc cc0_stg0_0) ↦{fullShare} xstg m ρ d

/-- The rights to signal the three neighbours. -/
def btoks (d : Dev nD) : sProp 𝕄 :=
  iprop(dutyTok ER (barCell (peer .x d)) 0 Ax.x ∗ dutyTok ER (barCell (peer .y d)) 0 Ax.y ∗ dutyTok ER (barCell (peer .z d)) 0 Ax.z)

/-! ## The handshake -/

/-- The signal to one neighbour, with the tiles the neighbour is to fill. -/
theorem signal_spec (d : Dev nD) (a : Ax) (O : CellTallies nD τ sig Unit) :
    iprop(ctx m ρ K ∗ dutyTok ER (barCell (peer a d)) 0 a ∗ (bigSepL (into a) fun r => rraw (F := F) d r) ∗ owesE (F := F) d (O + tallyAt (barCell (peer a d)) () 1))
      ⊢ bwp d (semSignalWord (peer a d) barSem 1#32) fun _ => owesE (F := F) d O := by
  unfold bwp owesE
  simp only [semSignalWord, Prog.lift]
  iintro ⟨#HC, Ht, Hr, %W, HO⟩
  ihave HR := (ctx_rec m ρ K) $$ HC
  icases HR with #HR
  iapply (Rounds.wp_signal 𝒱₀ ER (Rd m ρ) (d : Thread nD τ) none (dst := (peer a d : Thread nD τ)) (κ := K (peer a d, none))
      (d := a) (by rw [duties_bar]; exact Finset.mem_univ _) (show 1 = _ by decide) () O rfl) $$ [HO Ht Hr]
  · isplitr; · iapply (inv_at m ρ K (peer a d, none)); iexact HR
    isplitl [HO]; · iexact HO
    isplitl [Ht]; · iexact Ht
    isplitl [Hr]
    · iapply (Entails.of_eq (show (bigSepL (into a) fun r => rraw (F := F) d r) = (Rd m ρ).payload (barCell (peer a d)) 0 a by
        show _ = barPay (F := F) (peer a d) a; unfold barPay; rw [peer_peer])); iexact Hr
    iapply (reached_at m ρ K (peer a d, none)); iexact HR
  iintro HO
  rw [wp_ret]; imodintro
  iexists W; iexact HO

/-- Every tile to send has a level above the barrier's. -/
theorem sends_late : ∀ r ∈ sends, 1 < rlev r := fun r _ => rlev_pos r

/-- The wait for the three neighbours. -/
theorem barrier_spec (d : Dev nD) :
    iprop(ctx m ρ K ∗ cred (tallyAt (barCell d) () 3) ∗ atPos ER (barCell d) 0 ∅ 0 ∗ owesE (F := F) d (Osum d sends))
      ⊢ bwp d (semWaitWord barSem 3#32) fun _ => iprop((barPay (F := F) d .x ∗ barPay (F := F) d .y ∗ barPay (F := F) d .z) ∗ semVal (barCell d) 0 ∗ owesE (F := F) d (Osum d sends)) := by
  unfold bwp owesE
  simp only [semWaitWord, Prog.lift]
  iintro ⟨#HC, Hc, Hat, %W, HO⟩
  ihave HR := (ctx_rec m ρ K) $$ HC
  icases HR with #HR
  ihave HL := (ctx_lev m ρ K) $$ HC
  icases HL with #HL
  iapply (Rounds.wp_wait_rest_token 𝒱₀ ER (Rd m ρ) (d : Thread nD τ) none (κ := K (d, none))
      (wpE_semWait_eq 𝒱₀ (d : Thread nD τ) none Set.univ) (Set.mem_univ _) () (O := Osum d sends) (W := W) (R := 0) (m := 0) (T := ∅)
      (by rw [expect_bar]; decide)) $$ [Hc HO Hat]
  · isplitr; · iapply (inv_at m ρ K (d, none)); iexact HR
    isplitl [Hc]; · iexact Hc
    isplitl [HO]; · iexact HO
    isplitr; · iapply (mayWait_tiles d (.reg barSem) 1 sends (le_of_eq rfl) sends_late); iexact HL
    iexact Hat
  iintro ⟨HO, Hat, -, Hpay⟩
  rw [wp_ret]
  imod (Rounds.cell_close ER (Rd m ρ) (Set.mem_univ (K (d, none))) (fun h => h) (R := 0 + 1) (duties_later m ρ (barCell d))) $$ [Hat] with Hz
  · isplitr; · iapply (inv_at m ρ K (d, none)); iexact HR
    iexact Hat
  imodintro
  isplitl [Hpay]; · iapply (Entails.of_eq (rest_bar m ρ d)); iexact Hpay
  isplitl [Hz]; · iexact Hz
  iexists _; iexact HO

/-- What the neighbours hand over, and the sends' rights, tile by tile. -/
theorem handed (d : Dev nD) :
    iprop((barPay (F := F) d .x ∗ barPay (F := F) d .y ∗ barPay (F := F) d .z) ∗ bigSep Finset.univ (stoks (F := F) d)) ⊢ (bigSep Finset.univ (sres (F := F) d) : sProp 𝕄) := by
  have h (a : Ax) : barPay (F := F) d a = bigSepL (into a) fun r => rraw (F := F) (peer (ax r) d) r :=
    bigSepL_congr fun r hr => by rw [ax_into a r hr]
  rw [h, h, h, ← into_sum]
  unfold sres
  rw [bigSep_sep']

/-! ## The loads and the store of whole buffers -/

omit [FloatOps F] in
/-- The offsets of a whole array are zero. -/
theorem hz : (![0, 0] : Fin 2 → Nat) = fun _ => 0 := funext fun a => by fin_cases a <;> rfl

/-- The load of x reads its staging buffer. -/
theorem loadX_spec (d : Dev nD) :
    xPts m ρ d ⊢ bwp d (Prog.lift (.load xM (Rect.unit (s := S256x512) ![0, 0] S256x512.size inb_S256x512_S256x512_0_0).toLoadRect (View.loadsAt_vmem h_S256x512)))
      fun v => iprop(⌜v = xstg m ρ d⌝ ∗ xPts m ρ d) := by
  unfold bwp xPts
  simp only [Prog.lift]
  iintro H
  iapply (wp_load 𝒱₀ (d : Thread nD τ) none Set.univ (m := xM) (Finset.subset_univ _)) $$ H; iintro H
  rw [wp_ret]; imodintro
  isplitr
  · ipureintro; exact Memref.readAt_unit_zero (Elt F) cc0_stg0_0 hz _ _
  iexact H

/-- The load of the result reads its staging buffer. -/
theorem loadO_spec (d : Dev nD) (f : Vec F S256x8192 .f32) :
    oPts d f ⊢ bwp d (Prog.lift (.load oM (Rect.unit (s := S256x8192) ![0, 0] S256x8192.size inb_S256x8192_S256x8192_0_0).toLoadRect (View.loadsAt_vmem h_S256x8192)))
      fun v => iprop(⌜v = f⌝ ∗ oPts d f) := by
  unfold bwp oPts
  simp only [Prog.lift]
  iintro H
  iapply (wp_load 𝒱₀ (d : Thread nD τ) none Set.univ (m := oM) (Finset.subset_univ _)) $$ H; iintro H
  rw [wp_ret]; imodintro
  isplitr
  · ipureintro; exact Memref.readAt_unit_zero (Elt F) cc0_stg2_0 hz _ _
  iexact H

/-- A write over the whole result leaves what was written. -/
theorem write_out (f w : Vec F S256x8192 .f32) :
    (oM.access (Rect.unit (s := S256x8192) ![0, 0] S256x8192.size inb_S256x8192_S256x8192_0_0) : View sig .tc _ _ _).write (Elt F) f w Finset.univ = w :=
  Memref.write_access_unit_zero_univ (Elt F) cc0_stg2_0 hz _ f w

/-- The store of the result leaves what was stored. -/
theorem storeO_spec (d : Dev nD) (f v : Vec F S256x8192 .f32) :
    oPts d f ⊢ bwp d (Prog.lift (.store oM (Rect.unit (s := S256x8192) ![0, 0] S256x8192.size inb_S256x8192_S256x8192_0_0) v Finset.univ (View.stores_vmem_bits_univ h_S256x8192 rfl) (.inl rfl)))
      fun _ => oPts d v := by
  unfold bwp oPts
  simp only [Prog.lift]
  iintro H
  iapply (wp_store 𝒱₀ (d : Thread nD τ) none Set.univ (m := oM)
    (r := Rect.unit (s := S256x8192) ![0, 0] S256x8192.size inb_S256x8192_S256x8192_0_0) (Mk := Finset.univ) (Finset.subset_univ _)) $$ H; iintro H
  rw [write_out, wp_ret]; imodintro
  iexact H

/-! ## What the sends give back, part by part -/

/-- The home copies over x give back their shares and their semaphores at zero. -/
theorem done_0 (d : Dev nD) : (bigSepL chunks fun k => dback m ρ d (0, k))
    ⊢ iprop((bigSepL chunks fun k => lpts m ρ d shA (0, k)) ∗ (bigSepL chunks fun k => (semVal (sendCell d (0, k)) 0 : sProp 𝕄))) := by
  unfold dback; rw [bigSepL_sep, bigSepL_congr fun k hk => sendPay_0 m ρ d k]
/-- The copies over z give back their shares and their semaphores at zero. -/
theorem done_1 (d : Dev nD) : (bigSepL chunks fun k => dback m ρ d (1, k))
    ⊢ iprop((bigSepL chunks fun k => rpts m ρ d shB (0, k)) ∗ (bigSepL chunks fun k => (semVal (sendCell d (1, k)) 0 : sProp 𝕄))) := by
  unfold dback; rw [bigSepL_sep, bigSepL_congr fun k hk => sendPay_1 m ρ d k]
/-- The copies over y give back their shares and their semaphores at zero. -/
theorem done_2 (d : Dev nD) : (bigSepL chunks fun k => dback m ρ d (2, k))
    ⊢ iprop((bigSepL chunks fun k => rpts m ρ d shA (0, k)) ∗ (bigSepL chunks fun k => (semVal (sendCell d (2, k)) 0 : sProp 𝕄))) := by
  unfold dback; rw [bigSepL_sep, bigSepL_congr fun k hk => sendPay_2 m ρ d k]
/-- The diagonal copies over x give back their shares and their semaphores at zero. -/
theorem done_3x (d : Dev nD) : (bigSepL [0, 1, 2, 3] fun k => dback m ρ d (3, k))
    ⊢ iprop((bigSepL [0, 1, 2, 3] fun k => lpts m ρ d shA (3, k)) ∗ (bigSepL [0, 1, 2, 3] fun k => (semVal (sendCell d (3, k)) 0 : sProp 𝕄))) := by
  unfold dback; rw [bigSepL_sep, bigSepL_congr fun k hk => sendPay_3x m ρ d k hk]
/-- The diagonal copies over y give back their shares and their semaphores at zero. -/
theorem done_3y (d : Dev nD) : (bigSepL [4, 5] fun k => dback m ρ d (3, k))
    ⊢ iprop((bigSepL [4, 5] fun k => rpts m ρ d shA (1, k)) ∗ (bigSepL [4, 5] fun k => (semVal (sendCell d (3, k)) 0 : sProp 𝕄))) := by
  unfold dback; rw [bigSepL_sep, bigSepL_congr fun k hk => sendPay_3y m ρ d k hk]
/-- The diagonal copies over z give back their shares and their semaphores at zero. -/
theorem done_3z (d : Dev nD) : (bigSepL [6, 7] fun k => dback m ρ d (3, k))
    ⊢ iprop((bigSepL [6, 7] fun k => rpts m ρ d shB (2, k)) ∗ (bigSepL [6, 7] fun k => (semVal (sendCell d (3, k)) 0 : sProp 𝕄))) := by
  unfold dback; rw [bigSepL_sep, bigSepL_congr fun k hk => sendPay_3z m ρ d k hk]

/-! ## The body -/

/-- What a device starts the body with. -/
def bodyStart (d : Dev nD) : sProp 𝕄 :=
  iprop(ctx m ρ K
    ∗ (atPos ER (barCell d) 0 ∅ 0 ∗ cred (tallyAt (barCell d) () 3) ∗ btoks (F := F) d)
    ∗ bigSep Finset.univ (lraw (F := F) d) ∗ bigSep Finset.univ (rraw (F := F) d)
    ∗ bigSep Finset.univ (rcred (F := F) d) ∗ bigSep Finset.univ (stoks (F := F) d) ∗ bigSep Finset.univ (fun r => atPos ER (sendCell d r) 0 ∅ 0)
    ∗ owesE (F := F) d (O₀ d) ∗ xPts m ρ d ∗ wPts m ρ d ∗ ∃ f, oPts (F := F) d f)

/-- What it ends the body with. -/
def bodyEnd (d : Dev nD) : sProp 𝕄 :=
  iprop(semVal (barCell d) 0
    ∗ bigSep Finset.univ (lraw (F := F) d) ∗ bigSep Finset.univ (rraw (F := F) d)
    ∗ bigSep Finset.univ (fun r => semVal (recvCell d r) 0) ∗ bigSep Finset.univ (fun r => semVal (sendCell d r) 0)
    ∗ owesE (F := F) d 0 ∗ xPts m ρ d ∗ wPts m ρ d ∗ oPts d (outAt m ρ d))

/-- The sends in their order, as the loops take them. -/
theorem owed_split : sends = chunks.map (fun k => ((0, k) : Slot)) ++ (([0, 1, 2, 3] : List (Fin 8)).map (fun k => ((3, k) : Slot)) ++ (fwd chunks ++ sends₄)) := rfl

/-- The last sends are the diagonal part's chunks 4 to 7. -/
theorem last_eq : lastOwed chunks = sends₄ := by decide

set_option maxHeartbeats 1600000 in
/-- The body on any device: from its start it terminates with every tile whole again, its semaphores at zero, nothing
    owed, x and W unchanged and the result `outAt`. -/
theorem body_spec (d : Dev nD) : bodyStart m ρ K d ⊢ bwp d (body' d) fun _ => bodyEnd m ρ d := by
  unfold bodyStart body' btoks
  iintro ⟨#HC, ⟨Hat, Hcb, Htx, Hty, Htz⟩, HL, HR, Hrc, Hst, Has, HO, Hx, Hw, %f, Ho⟩
  -- the handshake
  ihave HR := (Entails.of_eq (into_sum (rraw (F := F) d))) $$ HR
  icases HR with ⟨HRx, HRy, HRz⟩
  unfold O₀
  unfold bwp; rw [wp_bind]
  ihave H := (signal_spec m ρ K d .x _) $$ [Htx HRx HO]
  · isplitr; · iexact HC
    isplitl [Htx]; · iexact Htx
    isplitl [HRx] <;> iassumption
  iapply (wp_wand _ _ _) $$ H
  iintro %_ HO
  rw [wp_bind]
  ihave H := (signal_spec m ρ K d .y _) $$ [Hty HRy HO]
  · isplitr; · iexact HC
    isplitl [Hty]; · iexact Hty
    isplitl [HRy] <;> iassumption
  iapply (wp_wand _ _ _) $$ H
  iintro %_ HO
  rw [wp_bind]
  ihave H := (signal_spec m ρ K d .z _) $$ [Htz HRz HO]
  · isplitr; · iexact HC
    isplitl [Htz]; · iexact Htz
    isplitl [HRz] <;> iassumption
  iapply (wp_wand _ _ _) $$ H
  iintro %_ HO
  rw [wp_bind]
  ihave H := (barrier_spec m ρ K d) $$ [Hcb Hat HO]
  · isplitr; · iexact HC
    isplitl [Hcb]; · iexact Hcb
    isplitl [Hat] <;> iassumption
  iapply (wp_wand _ _ _) $$ H
  iintro %_ ⟨Hbp, Hzb, HO⟩
  ihave HS := (handed (F := F) d) $$ [Hbp Hst]
  · isplitl [Hbp] <;> iassumption
  ihave HS := (Entails.of_eq (slots_sum (sres (F := F) d))) $$ HS
  icases HS with ⟨HS0, HS1, HS2, HS3⟩
  ihave HS3 := (Entails.of_eq (diag_sum fun k => sres (F := F) d (3, k))) $$ HS3
  icases HS3 with ⟨HS3x, HS3y, HS3z⟩
  ihave HL := (Entails.of_eq (slots_sum (lraw (F := F) d))) $$ HL
  icases HL with ⟨HL0, HL1, HL2, HL3⟩
  ihave Hrc := (Entails.of_eq (slots_sum (rcred (F := F) d))) $$ Hrc
  icases Hrc with ⟨Hrc0, Hrc1, Hrc2, Hrc3⟩
  ihave Has := (Entails.of_eq (slots_sum fun r => (atPos ER (sendCell d r) 0 ∅ 0 : sProp 𝕄))) $$ Has
  icases Has with ⟨Has0, Has1, Has2, Has3⟩
  ihave Has3 := (Entails.of_eq (diag_sum fun k => (atPos ER (sendCell d (3, k)) 0 ∅ 0 : sProp 𝕄))) $$ Has3
  icases Has3 with ⟨Has3x, Has3y, Has3z⟩
  -- the products and the sends over x
  rw [wp_bind]
  ihave H := (loadX_spec m ρ d) $$ Hx
  iapply (wp_wand _ _ _) $$ H
  iintro %x ⟨%hx, Hx⟩
  subst hx
  rw [wp_bind]
  ihave H := (loopA m ρ K d _) $$ [HL0 HS0 Hw HO]
  · isplitl [HL0 HS0]
    · rw [bigSepL_sep]; isplitl [HL0] <;> iassumption
    isplitr; · iexact HC
    isplitl [Hw]; · iexact Hw
    rw [owed_split]; iexact HO
  iapply (wp_wand _ _ _) $$ H
  iintro %_ ⟨H0, -, Hw, HO⟩
  ihave H0 := (Entails.of_eq (bigSepL_sep _ _ _)) $$ H0
  icases H0 with ⟨HB0, H0⟩
  ihave H0 := (Entails.of_eq (bigSepL_sep _ _ _)) $$ H0
  icases H0 with ⟨HC0, Hc0⟩
  rw [wp_bind]
  ihave H := (loopB m ρ d (tiles (later d))) $$ [HL1 HL2 HL3 Hw]
  · isplitr [Hw]
    · rw [later_sum]
      isplitl [HL1]; · iexact HL1
      isplitl [HL2] <;> iassumption
    iexact Hw
  iapply (wp_wand _ _ _) $$ H
  iintro %_ ⟨HP, Hw⟩
  ihave HP := (Entails.of_eq (later_sum d _)) $$ HP
  icases HP with ⟨HP1, HP2, HP3⟩
  ihave HP1 := (Entails.of_eq (bigSepL_sep _ _ _)) $$ HP1
  icases HP1 with ⟨HA1, HP1⟩
  ihave HP1 := (Entails.of_eq (bigSepL_sep _ _ _)) $$ HP1
  icases HP1 with ⟨HB1, HC1⟩
  ihave HP2 := (Entails.of_eq (bigSepL_sep _ _ _)) $$ HP2
  icases HP2 with ⟨HA2, HP2⟩
  ihave HP2 := (Entails.of_eq (bigSepL_sep _ _ _)) $$ HP2
  icases HP2 with ⟨HB2, HC2⟩
  ihave HP3 := (Entails.of_eq (bigSepL_sep _ _ _)) $$ HP3
  icases HP3 with ⟨HA3, HP3⟩
  ihave HP3 := (Entails.of_eq (bigSepL_sep _ _ _)) $$ HP3
  icases HP3 with ⟨HB3, HC3⟩
  ihave HA3 := (Entails.of_eq (diag_sum fun k => lpts m ρ d shA (3, k))) $$ HA3
  icases HA3 with ⟨HA3x, HA3y, HA3z⟩
  rw [wp_bind]
  ihave H := (loopC m ρ K d _) $$ [HA3x HS3x HO]
  · isplitl [HA3x HS3x]
    · rw [bigSepL_sep]; isplitl [HA3x] <;> iassumption
    isplitr; · iexact HC
    iexact HO
  iapply (wp_wand _ _ _) $$ H
  iintro %_ ⟨Hc3x, -, HO⟩
  -- the uses of the device's own tiles
  rw [wp_bind]
  ihave H := (loopD m ρ d (tiles (inOrder d)) (usesE chunks ++ (usesF chunks ++ usesG chunks)) (sumE m ρ d, outE m ρ d) zeroPay) $$ [HC0 HC1 HC2 HC3 Ho]
  · isplitr [Ho]
    · rw [inOrder_sum]
      isplitl [HC0]; · iexact HC0
      isplitl [HC1]; · iexact HC1
      isplitl [HC2] <;> iassumption
    unfold accE
    iexists f
    isplitr
    · ipureintro; exact uses_eq m ρ d f
    iexact Ho
  iapply (wp_wand _ _ _) $$ H
  iintro %s ⟨HCs, Hacc⟩
  ihave HCs := (Entails.of_eq (inOrder_sum d _)) $$ HCs
  icases HCs with ⟨HC0, HC1, HC2, HC3⟩
  -- the arrivals
  rw [wp_bind]
  ihave H := (loopE m ρ K d (usesF chunks ++ usesG chunks) (sumE m ρ d, outE m ρ d) s) $$ [Hrc0 HS2 HS1 HO Hacc]
  · isplitl [Hrc0 HS2 HS1]
    · rw [bigSepL_sep, bigSepL_sep]
      isplitl [Hrc0]; · iexact Hrc0
      isplitl [HS2] <;> iassumption
    isplitr; · iexact HC
    isplitl [HO] <;> iassumption
  iapply (wp_wand _ _ _) $$ H
  iintro %s ⟨HE, -, HO, Hacc⟩
  ihave HE := (Entails.of_eq (bigSepL_sep _ _ _)) $$ HE
  icases HE with ⟨HrC0, HE⟩
  ihave HE := (Entails.of_eq (bigSepL_sep _ _ _)) $$ HE
  icases HE with ⟨Hz0, HE⟩
  ihave HE := (Entails.of_eq (bigSepL_sep _ _ _)) $$ HE
  icases HE with ⟨Hc2, Hc1⟩
  rw [wp_bind]
  ihave H := (loopF m ρ K d (usesG chunks) (sumE m ρ d, outE m ρ d) s) $$ [Hrc1 Hrc2 HS3y HS3z HO Hacc]
  · isplitl [Hrc1 Hrc2 HS3y HS3z]
    · rw [bigSepL_sep, bigSepL_sep, bigSepL_sep, if_y_sum, if_z_sum]
      isplitl [Hrc1]; · iexact Hrc1
      isplitl [Hrc2]; · iexact Hrc2
      isplitl [HS3y]
      · isplitr; · iapply (bigSepL_emp (F := F))
        isplitl; · iexact HS3y
        iapply (bigSepL_emp (F := F))
      isplitr; · iapply (bigSepL_emp (F := F))
      isplitr; · iapply (bigSepL_emp (F := F))
      iexact HS3z
    isplitr; · iexact HC
    isplitl [HO]; · rw [last_eq]; iexact HO
    iexact Hacc
  iapply (wp_wand _ _ _) $$ H
  iintro %s ⟨HF, -, HO, Hacc⟩
  ihave HF := (Entails.of_eq (bigSepL_sep _ _ _)) $$ HF
  icases HF with ⟨HF1, HF⟩
  ihave HF := (Entails.of_eq (bigSepL_sep _ _ _)) $$ HF
  icases HF with ⟨HF2, HF⟩
  ihave HF := (Entails.of_eq (bigSepL_sep _ _ _)) $$ HF
  icases HF with ⟨HFy, HFz⟩
  ihave HF1 := (Entails.of_eq (bigSepL_sep _ _ _)) $$ HF1
  icases HF1 with ⟨HrB1, HF1⟩
  ihave HF1 := (Entails.of_eq (bigSepL_sep _ _ _)) $$ HF1
  icases HF1 with ⟨HrC1, Hz1⟩
  ihave HF2 := (Entails.of_eq (bigSepL_sep _ _ _)) $$ HF2
  icases HF2 with ⟨HrA2, HF2⟩
  ihave HF2 := (Entails.of_eq (bigSepL_sep _ _ _)) $$ HF2
  icases HF2 with ⟨HrC2, Hz2⟩
  ihave HFy := (Entails.of_eq (if_y_sum _ _)) $$ HFy
  icases HFy with ⟨HrA1x, Hc3y, HrA1z⟩
  ihave HFz := (Entails.of_eq (if_z_sum _ _)) $$ HFz
  icases HFz with ⟨HrB2x, HrB2y, Hc3z⟩
  rw [wp_bind]
  ihave H := (loopG m ρ K d (sumE m ρ d, outE m ρ d) s) $$ [Hrc3 HO Hacc]
  · isplitl [Hrc3]; · iexact Hrc3
    isplitr; · iexact HC
    isplitl [HO] <;> iassumption
  iapply (wp_wand _ _ _) $$ H
  iintro %s ⟨HG, -, HO, Hacc⟩
  ihave HG := (Entails.of_eq (bigSepL_sep _ _ _)) $$ HG
  icases HG with ⟨HG, Hz3⟩
  ihave HG := (Entails.of_eq (bigSepL_sep _ _ _)) $$ HG
  icases HG with ⟨HrA3, HG⟩
  ihave HG := (Entails.of_eq (bigSepL_sep _ _ _)) $$ HG
  icases HG with ⟨HrB3, HrC3⟩
  -- the scaling
  unfold accE
  icases Hacc with ⟨%g, %hg, Ho⟩
  obtain ⟨rfl, rfl⟩ := Prod.mk.inj hg
  rw [wp_bind]
  ihave H := (loadO_spec d _) $$ Ho
  iapply (wp_wand _ _ _) $$ H
  iintro %o ⟨%ho, Ho⟩
  subst ho
  rw [wp_bind]
  ihave H := (loadO_spec d _) $$ Ho
  iapply (wp_wand _ _ _) $$ H
  iintro %_ ⟨-, Ho⟩
  rw [wp_bind]
  ihave H := (storeO_spec d _ (outAt m ρ d)) $$ Ho
  iapply (wp_wand _ _ _) $$ H
  iintro %_ Ho
  -- the ends of the sends
  rw [wp_bind]
  ihave H := (loopDone m ρ K d 0 chunks) $$ [Hc0 Has0 HO]
  · isplitl [Hc0 Has0]
    · unfold dres; rw [bigSepL_sep]; isplitl [Hc0] <;> iassumption
    isplitr; · iexact HC
    iexact HO
  iapply (wp_wand _ _ _) $$ H
  iintro %_ ⟨HD0, -, HO⟩
  rw [wp_bind]
  ihave H := (loopDone m ρ K d 3 [0, 1, 2, 3]) $$ [Hc3x Has3x HO]
  · isplitl [Hc3x Has3x]
    · unfold dres; rw [bigSepL_sep]; isplitl [Hc3x] <;> iassumption
    isplitr; · iexact HC
    iexact HO
  iapply (wp_wand _ _ _) $$ H
  iintro %_ ⟨HD3x, -, HO⟩
  rw [wp_bind]
  ihave H := (loopDone₂ m ρ K d chunks) $$ [Hc2 Has2 Hc1 Has1 HO]
  · isplitr [HO]
    · unfold dres; rw [bigSepL_sep, bigSepL_sep, bigSepL_sep]
      isplitl [Hc2 Has2]
      · isplitl [Hc2] <;> iassumption
      isplitl [Hc1] <;> iassumption
    isplitr; · iexact HC
    iexact HO
  iapply (wp_wand _ _ _) $$ H
  iintro %_ ⟨HD21, -, HO⟩
  ihave H := (loopDone m ρ K d 3 [6, 7, 4, 5]) $$ [Hc3z Has3z Hc3y Has3y HO]
  · isplitr [HO]
    · unfold dres; rw [bigSepL_sep, show ([6, 7, 4, 5] : List (Fin 8)) = [6, 7] ++ [4, 5] from rfl, bigSepL_append, bigSepL_append]
      isplitl [Hc3z Hc3y]
      · isplitl [Hc3z] <;> iassumption
      isplitl [Has3z] <;> iassumption
    isplitr; · iexact HC
    iexact HO
  iapply (wp_wand _ _ _) $$ H
  iintro %_ ⟨HD3yz, -, HO⟩
  ihave HD0 := (done_0 m ρ d) $$ HD0
  icases HD0 with ⟨HA0, Hs0⟩
  ihave HD3x := (done_3x m ρ d) $$ HD3x
  icases HD3x with ⟨HA3x, Hs3x⟩
  ihave HD21 := (Entails.of_eq (bigSepL_sep _ _ _)) $$ HD21
  icases HD21 with ⟨HD2, HD1⟩
  ihave HD2 := (done_2 m ρ d) $$ HD2
  icases HD2 with ⟨HrA0, Hs2⟩
  ihave HD1 := (done_1 m ρ d) $$ HD1
  icases HD1 with ⟨HrB0, Hs1⟩
  ihave HD3yz := (Entails.of_eq (show (bigSepL [6, 7, 4, 5] fun k => dback m ρ d (3, k)) = iprop((bigSepL [6, 7] fun k => dback m ρ d (3, k)) ∗ (bigSepL [4, 5] fun k => dback m ρ d (3, k)))
    from bigSepL_append [6, 7] [4, 5] _)) $$ HD3yz
  icases HD3yz with ⟨HD3z, HD3y⟩
  ihave HD3z := (done_3z m ρ d) $$ HD3z
  icases HD3z with ⟨HrB2z, Hs3z⟩
  ihave HD3y := (done_3y m ρ d) $$ HD3y
  icases HD3y with ⟨HrA1y, Hs3y⟩
  -- the tiles whole again
  unfold bodyEnd
  rw [slots_sum, slots_sum, slots_sum, slots_sum]
  isplitl [Hzb]; · iexact Hzb
  isplitl [HA0 HB0 HC0 HA1 HB1 HC1 HA2 HB2 HC2 HA3x HA3y HA3z HB3 HC3]
  · isplitl [HA0 HB0 HC0]
    · iapply (lpts_joins m ρ d 0 chunks)
      isplitl [HA0]; · iexact HA0
      isplitl [HB0] <;> iassumption
    isplitl [HA1 HB1 HC1]
    · iapply (lpts_joins m ρ d 1 chunks)
      isplitl [HA1]; · iexact HA1
      isplitl [HB1] <;> iassumption
    isplitl [HA2 HB2 HC2]
    · iapply (lpts_joins m ρ d 2 chunks)
      isplitl [HA2]; · iexact HA2
      isplitl [HB2] <;> iassumption
    iapply (lpts_joins m ρ d 3 chunks)
    isplitl [HA3x HA3y HA3z]
    · rw [diag_sum]
      isplitl [HA3x]; · iexact HA3x
      isplitl [HA3y] <;> iassumption
    isplitl [HB3] <;> iassumption
  isplitl [HrA0 HrB0 HrC0 HrA1x HrA1y HrA1z HrB1 HrC1 HrA2 HrB2x HrB2y HrB2z HrC2 HrA3 HrB3 HrC3]
  · isplitl [HrA0 HrB0 HrC0]
    · iapply (rpts_joins m ρ d 0 chunks)
      isplitl [HrA0]; · iexact HrA0
      isplitl [HrB0] <;> iassumption
    isplitl [HrA1x HrA1y HrA1z HrB1 HrC1]
    · iapply (rpts_joins m ρ d 1 chunks)
      isplitl [HrA1x HrA1y HrA1z]
      · rw [diag_sum]
        isplitl [HrA1x]; · iexact HrA1x
        isplitl [HrA1y] <;> iassumption
      isplitl [HrB1] <;> iassumption
    isplitl [HrA2 HrB2x HrB2y HrB2z HrC2]
    · iapply (rpts_joins m ρ d 2 chunks)
      isplitl [HrA2]; · iexact HrA2
      isplitl [HrB2x HrB2y HrB2z]
      · rw [diag_sum]
        isplitl [HrB2x]; · iexact HrB2x
        isplitl [HrB2y] <;> iassumption
      iexact HrC2
    iapply (rpts_joins m ρ d 3 chunks)
    isplitl [HrA3]; · iexact HrA3
    isplitl [HrB3] <;> iassumption
  isplitl [Hz0 Hz1 Hz2 Hz3]
  · isplitl [Hz0]; · iexact Hz0
    isplitl [Hz1]; · iexact Hz1
    isplitl [Hz2] <;> iassumption
  isplitl [Hs0 Hs1 Hs2 Hs3x Hs3y Hs3z]
  · isplitl [Hs0]; · iexact Hs0
    isplitl [Hs1]; · iexact Hs1
    isplitl [Hs2]; · iexact Hs2
    rw [diag_sum]
    isplitl [Hs3x]; · iexact Hs3x
    isplitl [Hs3y] <;> iassumption
  isplitl [HO]; · iexact HO
  isplitl [Hx]; · iexact Hx
  isplitl [Hw] <;> iassumption

end Cert.KernelIdeal.Softmax
-- ==== Proof.KernelIdealBodyEq.lean ====
/- The printed kernel body is the loops of `KernelIdealBody`. -/
module

public import proofs.«01_k».proof.Proof.KernelIdealBody
public import Idealize.ShloMosaic.Lib.Pipeline.Regions

@[expose] public section

noncomputable section

namespace Cert.KernelIdeal.Softmax

open Idealize.ShloMosaic Idealize.ShloMosaic.TcCoe
open Idealize.SL Idealize.SL.Sem
open Cert.KernelIdeal Cert.KernelIdeal.Gen

variable {F : FTy → Type} [FloatOps F]

set_option maxRecDepth 1000000 in
/-- The printed body is the loops, on each device. -/
theorem body_eq : cc0_body (F := F) xM (hstage0_0 0) wM (hstage0_1 0) oM (hstage0_2 0) lM (Memref.isWhole_whole _) rM (Memref.isWhole_whole _)
    cc0_scratch2 cc0_scratch3 cc0_scratch4 cc0_scratch5 cc0_scratch6 = Prog.op .deviceId body' := by
  refine congrArg (Prog.op TpuEff.deviceId) (funext fun d => ?_)
  match d with
  | ⟨0, _⟩ => show _ = _; chain_rfl
  | ⟨1, _⟩ => show _ = _; chain_rfl
  | ⟨2, _⟩ => show _ = _; chain_rfl
  | ⟨3, _⟩ => show _ = _; chain_rfl
  | ⟨4, _⟩ => show _ = _; chain_rfl
  | ⟨5, _⟩ => show _ = _; chain_rfl
  | ⟨6, _⟩ => show _ = _; chain_rfl
  | ⟨7, _⟩ => show _ = _; chain_rfl

end Cert.KernelIdeal.Softmax
-- ==== Proof.KernelIdealLaunch.lean ====
/- The run of the kernel of version v06 on the whole mesh: what each device starts with, and what its arrays hold at
   the end. -/
module

public import proofs.«01_k».proof.Proof.KernelIdealRun
public import proofs.«01_k».proof.Proof.KernelIdealBodyEq
public import proofs.«01_k».proof.Proof.Gen.KernelIdeal.Launch
public import proofs.«01_k».proof.Proof.Gen.KernelIdeal.Points
public import Idealize.ShloMosaic.Lib.Pipeline.CollectiveSegs

@[expose] public section

noncomputable section

namespace Cert.KernelIdeal.Softmax

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ UU ℕ

variable (m : (ℓ : Loc nD τ sig) → Buf (Elt F) ℓ) (ρ : Dev nD → PrngReg)

/-! ## The pipeline's proof data -/

/-- A device's own part of the schedule: its places in it and the rights to raise its neighbours' semaphores. -/
def linear (d : Dev nD) : sProp 𝕄 :=
  iprop(atPos ER (barCell d) 0 ∅ 0 ∗ bigSep Finset.univ (fun r => atPos ER (recvCell d r) 0 ∅ 0)
    ∗ bigSep Finset.univ (fun r => atPos ER (sendCell d r) 0 ∅ 0) ∗ btoks (F := F) d ∗ bigSep Finset.univ (stoks (F := F) d))

/-- That, with every semaphore's invariant. -/
def ghost (d : Dev nD) : sProp 𝕄 := iprop(∃ K : Dev nD × CK → ℕ, records m ρ K ∗ linear (F := F) d)

/-- What a device may wait for. -/
def waitsFor (d : Dev nD) : sProp 𝕄 :=
  iprop(cred (tallyAt (barCell d) () 3) ∗ bigSep Finset.univ (fun r => cred (tallyAt (recvCell d r) () N)))

/-- What a device enters the kernel with, beside its buffers. -/
def start (d : Dev nD) : sProp 𝕄 := iprop(ghost m ρ d ∗ waitsFor (F := F) d ∗ levAts L lv)

/-- The two tiled buffers, holding something. -/
def bufs (d : Dev nD) : sProp 𝕄 :=
  iprop((∃ f : Buf (Elt F) ((d : Thread nD τ).loc cc0_scratch0), ((d : Thread nD τ).loc cc0_scratch0) ↦{fullShare} f)
    ∗ (∃ f : Buf (Elt F) ((d : Thread nD τ).loc cc0_scratch1), ((d : Thread nD τ).loc cc0_scratch1) ↦{fullShare} f))

/-- The kernel's semaphores at zero. -/
def closed (d : Dev nD) : sProp 𝕄 :=
  iprop(semVal (barCell d) 0 ∗ bigSep Finset.univ (fun r => semVal (recvCell d r) 0) ∗ bigSep Finset.univ (fun r => semVal (sendCell d r) 0))

/-- What a device holds before the body. -/
def Φ₀ (d : Dev nD) : sProp 𝕄 := iprop(start m ρ d ∗ bufs (F := F) d)
/-- What a device holds after the body. -/
def Φ₁ (d : Dev nD) : sProp 𝕄 := iprop(closed (F := F) d ∗ bufs (F := F) d)

/-- The pipeline's one call: its arrays, what the staging buffers hold after the body, and what is owed before and
    after. -/
def dats (_ : Fin 1) (c : Dev nD) : Dat τ (Elt F) Unit ℕ UU ℕ cfg0 c where
  A w := (s₀ m ρ).mem ((cfg0.win w).arr.view.loc (c : Thread nD τ))
  after w _ := match w with
    | ⟨0, _⟩ => xstg m ρ c
    | ⟨1, _⟩ => wstg m ρ c
    | ⟨2, _⟩ => outAt m ρ c
  Φ t := match t with
    | ⟨0, _⟩ => Φ₀ m ρ c
    | ⟨_ + 1, _⟩ => Φ₁ c
  q _ := fullShare
  owed t := match t with
    | ⟨0, _⟩ => O₀ c
    | ⟨_ + 1, _⟩ => 0

/-! ## The body -/

/-- A whole buffer with given contents. -/
theorem owns_whole_eq (c : Dev nD) (b : Ref sig .tc) (X : b.ty.Contents (Elt F)) :
    (owns (Ix := Unit) (Name := ℕ) (U := UU) (Lvl := ℕ) (c : Thread nD τ) (Memref.whole b) fullShare X : sProp 𝕄)
      = iprop(∃ f : Buf (Elt F) ((c : Thread nD τ).loc b), ⌜f = X⌝ ∗ (((c : Thread nD τ).loc b) ↦{fullShare} f)) := by
  unfold owns; simp only [Memref.view_whole, View.read_whole, View.set_whole]

/-- A staging buffer holding `X`. -/
def stg (c : Dev nD) (b : Ref sig .tc) (X : b.ty.Contents (Elt F)) : sProp 𝕄 :=
  iprop(∃ f : Buf (Elt F) ((c : Thread nD τ).loc b), ⌜f = X⌝ ∗ (((c : Thread nD τ).loc b) ↦{fullShare} f))

/-- Before the body the staging buffer of x holds x. -/
theorem before_x (c : Dev nD) (d) : (dats m ρ 0 c).before (0 : Fin 3) t0_0 d = xstg m ρ c := by
  unfold Dat.before; rw [if_pos (fetch0_0 t0_0)]; rfl
/-- Before the body the staging buffer of W holds W. -/
theorem before_w (c : Dev nD) (d) : (dats m ρ 0 c).before (1 : Fin 3) t0_0 d = wstg m ρ c := by
  unfold Dat.before; rw [if_pos (fetch0_1 t0_0)]; rfl

/-- What the pipeline hands the body. -/
def bodyPre (c : Dev nD) : sProp 𝕄 :=
  iprop(Φ₀ m ρ c ∗ (dats m ρ 0 c).owesAt () t0_0.castSucc
    ∗ (∃ d, stg c cc0_stg0_0 ((dats m ρ 0 c).before (0 : Fin 3) t0_0 d))
    ∗ (∃ d, stg c cc0_stg1_0 ((dats m ρ 0 c).before (1 : Fin 3) t0_0 d))
    ∗ (∃ d, stg c cc0_stg2_0 ((dats m ρ 0 c).before (2 : Fin 3) t0_0 d)))

/-- What the pipeline takes back from the body. -/
def bodyPost (c : Dev nD) : sProp 𝕄 :=
  iprop(Φ₁ (F := F) c ∗ (dats m ρ 0 c).owesAt () t0_0.succ
    ∗ stg c cc0_stg0_0 (xstg m ρ c) ∗ stg c cc0_stg1_0 (wstg m ρ c) ∗ stg c cc0_stg2_0 (outAt m ρ c))

/-- What the pipeline hands the body is what the body starts with. -/
theorem pre_start (c : Dev nD) : bodyPre m ρ c ⊢ iprop(∃ K : Dev nD × CK → ℕ, bodyStart m ρ K c) := by
  unfold bodyPre Φ₀ start ghost waitsFor linear bufs bodyStart
  iintro ⟨⟨⟨⟨%K, #HR, Hab, Har, Has, Hbt, Hst⟩, ⟨Hcb, Hcr⟩, #HL⟩, HA, HB⟩, Ho, Hx, Hw, Hout⟩
  iexists K
  isplitr
  · unfold ctx; isplitr; · iexact HR
    iexact HL
  isplitl [Hab Hcb Hbt]
  · isplitl [Hab]; · iexact Hab
    isplitl [Hcb]; · iexact Hcb
    iexact Hbt
  isplitl [HA]; · iapply (lbuf_split (F := F) c); iexact HA
  isplitl [HB]; · iapply (rbuf_split (F := F) c); iexact HB
  isplitl [Hcr Har]
  · iapply (Entails.of_eq (bigSep_sep' Finset.univ (fun r : Slot => (cred (tallyAt (recvCell c r) () N) : sProp 𝕄)) (fun r => atPos ER (recvCell c r) 0 ∅ 0)).symm)
    isplitl [Hcr] <;> iassumption
  isplitl [Hst]; · iexact Hst
  isplitl [Has]; · iexact Has
  isplitl [Ho]
  · unfold Dat.owesAt Pipeline.owesWithin owesE
    icases Ho with ⟨%W, -, HW⟩
    iexists W; iexact HW
  isplitl [Hx]
  · unfold stg; icases Hx with ⟨%d, %f, %hf, Hx⟩
    rw [before_x] at hf; subst hf; unfold xPts; iexact Hx
  isplitl [Hw]
  · unfold stg; icases Hw with ⟨%d, %f, %hf, Hw⟩
    rw [before_w] at hf; subst hf; unfold wPts; iexact Hw
  unfold stg; icases Hout with ⟨%d, %f, -, Ho⟩
  iexists f; unfold oPts; iexact Ho

/-- What the body ends with is what the pipeline takes back. -/
theorem end_post (c : Dev nD) : bodyEnd m ρ c ⊢ bodyPost m ρ c := by
  unfold bodyEnd bodyPost Φ₁ closed bufs
  iintro ⟨Hb, HA, HB, Hr, Hs, Ho, Hx, Hw, Hout⟩
  isplitl [Hb HA HB Hr Hs]
  · isplitl [Hb Hr Hs]
    · isplitl [Hb]; · iexact Hb
      isplitl [Hr] <;> iassumption
    isplitl [HA]; · iapply (lbuf_join (F := F) c); iexact HA
    iapply (rbuf_join (F := F) c); iexact HB
  isplitl [Ho]
  · unfold owesE Dat.owesAt Pipeline.owesWithin
    icases Ho with ⟨%W, HW⟩
    iexists W; isplitr
    · ipureintro; exact fun _ _ => Or.inl trivial
    iexact HW
  isplitl [Hx]
  · unfold stg xPts; iexists _; isplitr; · ipureintro; rfl
    iexact Hx
  isplitl [Hw]
  · unfold stg wPts; iexists _; isplitr; · ipureintro; rfl
    iexact Hw
  unfold stg oPts; iexists _; isplitr; · ipureintro; rfl
  iexact Hout

set_option maxRecDepth 100000 in
/-- The pipeline's one point runs the printed body. -/
theorem body_obligation (c : Dev nD) : BodyObligation (dats (F := F) m ρ 0 c) (defs₀ (F := F)) 𝒱₀ () Set.univ := fun t => by
  rw [show t = t0_0 from fin_N0 t, bigSep_W0, bigSep_W0]
  simp only [owns_whole_eq]
  show bodyPre m ρ c ⊢ bwp c (cc0_body (F := F) xM (hstage0_0 0) wM (hstage0_1 0) oM (hstage0_2 0) lM (Memref.isWhole_whole _) rM (Memref.isWhole_whole _)
    cc0_scratch2 cc0_scratch3 cc0_scratch4 cc0_scratch5 cc0_scratch6) (fun _ => bodyPost m ρ c)
  rw [body_eq]
  unfold bwp
  iintro H
  ihave H := (pre_start m ρ c) $$ H
  icases H with ⟨%K, H⟩
  rw [wp_deviceId]
  ihave H := (body_spec m ρ K c) $$ H
  iapply (wp_wand _ _ _) $$ H
  iintro %_ H
  iapply (end_post m ρ c); iexact H

/-! ## The semaphores and the schedule's tokens at the launch -/

/-- The kernel's own semaphores are different ones, and none is the pipeline's. -/
theorem ownSemFacts : Pipeline.OwnSemFacts cfg0.spec osem := by decide +kernel

/-- Every array is held whole. -/
theorem share_eq (c : Dev nD) (w : Fin cfg0.W) : (dats m ρ 0 c).share w = fullShare := by unfold Dat.share; split <;> rfl

/-- Which of the kernel's semaphores a semaphore is. -/
def ckOf : SemLoc sig → CK
  | .reg _ => none
  | .dma q => role q
/-- A semaphore's name is found from it. -/
theorem ckOf_ksem (k : CK) : ckOf (ksem k) = k := by
  rcases k with _ | ⟨_ | _, r⟩
  · rfl
  · exact role_send r
  · exact role_recv r.1 r.2

/-- Different names are different semaphores. -/
theorem kcell_injective : Function.Injective (kcell : Dev nD × CK → GSem nD τ sig) := by
  rintro ⟨c, k⟩ ⟨c', k'⟩ h
  have h1 : c = c' := congrArg (fun g : GSem nD τ sig => g.1.1) h
  have h2 : ckOf (ksem k) = ckOf (ksem k') := congrArg (fun g : GSem nD τ sig => ckOf g.2) h
  rw [ckOf_ksem, ckOf_ksem] at h2
  rw [h1, h2]
/-- All the kernel's semaphores on all devices. -/
def allCells : Finset (GSem nD τ sig) := Finset.univ.map ⟨kcell, kcell_injective⟩

/-- The tokens of the schedule: three for a barrier, one for every other semaphore. -/
abbrev TK : Type := Ax ⊕ (Bool × Slot)
/-- The semaphore and the duty of a token. -/
def tkCell : TK → CK × Ax
  | .inl a => (none, a)
  | .inr k => (some k, .x)
/-- Different tokens are of different duties. -/
theorem tkCell_injective : Function.Injective tkCell := by
  rintro (a | k) (a' | k') h
  · exact congrArg Sum.inl (congrArg Prod.snd h)
  · exact absurd (congrArg Prod.fst h) (by intro e; cases e)
  · exact absurd (congrArg Prod.fst h) (by intro e; cases e)
  · exact congrArg Sum.inr (Option.some.inj (congrArg Prod.fst h))
/-- The token on a device. -/
def tokOf (x : Dev nD × TK) : GSem nD τ sig × ℕ × Ax := (kcell (x.1, (tkCell x.2).1), 0, (tkCell x.2).2)
/-- Different tokens on the mesh are of different duties. -/
theorem tokOf_injective : Function.Injective tokOf := by
  rintro ⟨c, j⟩ ⟨c', j'⟩ h
  have h1 := kcell_injective (congrArg Prod.fst h)
  have h2 : (tkCell j).2 = (tkCell j').2 := congrArg (fun x : GSem nD τ sig × ℕ × Ax => x.2.2) h
  have h3 : (tkCell j).1 = (tkCell j').1 := congrArg Prod.snd h1
  have h4 : c = c' := congrArg Prod.fst h1
  rw [h4, tkCell_injective (Prod.ext h3 h2)]
/-- All the tokens on all devices. -/
def allToks : Finset (GSem nD τ sig × ℕ × Ax) := Finset.univ.map ⟨tokOf, tokOf_injective⟩

/-- The ghost state the launch starts from. -/
def u₀ : UU :=
  (initOf (Pipeline.cells cfgs cellOf_inj) (Pipeline.launchToks cfgs cellOf_inj), initOf allCells allToks)

/-- The tokens of device `c`'s own semaphores. -/
def toks (c : Dev nD) : sProp 𝕄 :=
  iprop(bigSep Finset.univ (fun a : Ax => dutyTok ER (barCell c) 0 a)
    ∗ bigSep Finset.univ (fun k : Bool × Slot => dutyTok ER (kcell (c, some k)) 0 Ax.x))

/-- What the launch deals device `c`. -/
def G (c : Dev nD) : sProp 𝕄 :=
  iprop((bigSep Finset.univ fun k : CK => roundState ER (Rd m ρ) (kcell (c, k)) 0)
    ∗ (bigSep Finset.univ fun k : CK => iprop(atPos ER (kcell (c, k)) 0 ∅ 0 ∗ reached ER (kcell (c, k)) 0)) ∗ toks (F := F) c)

/-- The kernel's ghost state is dealt to the devices. -/
theorem fund_all : BI.own (ER (initOf allCells allToks)) ⊢ (|==> bigSep Finset.univ (G m ρ) : sProp 𝕄) := by
  have hX (Φ : GSem nD τ sig → sProp 𝕄) : bigSep allCells Φ = bigSep Finset.univ fun c : Dev nD => bigSep Finset.univ fun k : CK => Φ (kcell (c, k)) := by
    unfold allCells; rw [bigSep_map, bigSep_univ_prod]; rfl
  have hT : bigSep allToks (fun x => (dutyTok ER x.1 x.2.1 x.2.2 : sProp 𝕄)) = bigSep Finset.univ fun c : Dev nD => toks (F := F) c := by
    unfold allToks; rw [bigSep_map, bigSep_univ_prod]
    exact bigSep_congr fun c _ => by unfold toks; rw [bigSep_univ_sum]; rfl
  iintro HX
  imod (Rounds.fund ER (Rd m ρ) allCells allToks) $$ HX with ⟨Hst, Hr, Hat, Htok⟩
  imodintro
  ihave Hst' := (Entails.of_eq (hX fun g => roundState ER (Rd m ρ) g 0)) $$ Hst
  ihave Hat' := (Entails.of_eq (hX fun g => atPos ER g 0 ∅ 0)) $$ Hat
  ihave Hr' := (Entails.of_eq (hX fun g => reached ER g 0)) $$ Hr
  ihave Htok' := (Entails.of_eq hT) $$ Htok
  unfold G; simp only [bigSep_sep']
  isplitl [Hst']; · iexact Hst'
  isplitl [Hat' Hr']
  · isplitl [Hat'] <;> iassumption
  iexact Htok'

/-- Something of each of a device's own semaphores but the barrier, tile by tile as the device calls the tiles. -/
theorem own_sum (Φ : GSem nD τ sig → sProp 𝕄) (c : Dev nD) :
    (bigSep Finset.univ fun k : Bool × Slot => Φ (kcell (c, some k)))
      = iprop((bigSep Finset.univ fun r => Φ (recvCell c r)) ∗ bigSep Finset.univ fun r => Φ (sendCell c r)) := by
  rw [bigSep_univ_prod (fun k : Bool × Slot => Φ (kcell (c, some k))), bigSep_univ_eq_bigSepL [true, false] (by decide) (by decide) _]
  show iprop((bigSep Finset.univ fun r : Slot => Φ (kcell (c, some (true, r)))) ∗ bigSep Finset.univ fun r : Slot => Φ (kcell (c, some (false, r)))) = _
  rw [bigSep_univ_equiv (absE c) (fun r : Slot => Φ (kcell (c, some (true, r))))]
  rfl

/-- And with the barrier. -/
theorem cells_sum (Φ : GSem nD τ sig → sProp 𝕄) (c : Dev nD) :
    (bigSep Finset.univ fun k : CK => Φ (kcell (c, k)))
      = iprop(Φ (barCell c) ∗ (bigSep Finset.univ fun r => Φ (recvCell c r)) ∗ bigSep Finset.univ fun r => Φ (sendCell c r)) := by
  rw [← own_sum Φ c, bigSep_univ_equiv (Equiv.optionEquivSumPUnit.{0} (Bool × Slot)).symm (fun k : CK => Φ (kcell (c, k))),
    bigSep_univ_sum, bigSep_univ_eq_bigSepL [PUnit.unit] (by decide) (by decide) _]
  have e (P Q : sProp 𝕄) : iprop(P ∗ Q) = iprop(Q ∗ P) := BI.Entails.antisymm sep_comm sep_comm
  rw [e]; rfl

/-- A device's own semaphores at zero, tile by tile. -/
theorem ownSems0_eq (c : Dev nD) : (Pipeline.ownSems0 (Ix := Unit) (Name := ℕ) (U := UU) (Lvl := ℕ) (Val := Elt F) (τ := τ) osem c : sProp 𝕄)
    = iprop((bigSep Finset.univ fun r => semVal (recvCell c r) 0) ∗ bigSep Finset.univ fun r => semVal (sendCell c r) 0) := by
  rw [← own_sum (fun g => semVal g 0) c]; rfl

/-- The one semaphore that outlives the call is the barrier. -/
theorem unscopedSems0_eq (c : Dev nD) : (unscopedSems0 c : sProp 𝕄) = semVal (barCell c) 0 := by
  unfold unscopedSems0; rw [bigSep_eq_bigSepL_of_eq [SemLoc.reg barSem] (by decide +kernel) (by decide)]; rfl

/-- All the kernel's semaphores of a device start at zero. -/
theorem sems0 (c : Dev nD) :
    iprop(Pipeline.ownSems0 (Ix := Unit) (Name := ℕ) (U := UU) (Lvl := ℕ) (Val := Elt F) (τ := τ) osem c ∗ unscopedSems0 c)
      ⊢ (bigSep Finset.univ fun k : CK => semVal (kcell (c, k)) 0 : sProp 𝕄) := by
  rw [ownSems0_eq, unscopedSems0_eq, cells_sum (fun g => semVal g 0) c]
  iintro ⟨HS, HB⟩
  isplitl [HB] <;> iassumption

/-- Each device puts its semaphores under their invariants. -/
theorem core_alloc (c : Dev nD) :
    iprop(Pipeline.ownSems0 (Ix := Unit) (Name := ℕ) (U := UU) (Lvl := ℕ) (Val := Elt F) (τ := τ) osem c ∗ unscopedSems0 c ∗ G m ρ c)
      ⊢ |={Set.univ}=> iprop((bigSep Finset.univ fun k => iprop(∃ κ : ℕ, cellInv ER (Rd m ρ) κ (kcell (c, k))))
          ∗ (bigSep Finset.univ fun k => iprop(atPos ER (kcell (c, k)) 0 ∅ 0 ∗ reached ER (kcell (c, k)) 0)) ∗ toks (F := F) c) := by
  unfold G
  iintro ⟨Hos, Hus, Hst, Hat, Htok⟩
  ihave Hv := (sems0 (F := F) c) $$ [Hos Hus]
  · isplitl [Hos] <;> iassumption
  imod (show iprop((bigSep Finset.univ fun k : CK => semVal (kcell (c, k)) 0) ∗ bigSep Finset.univ fun k : CK => roundState ER (Rd m ρ) (kcell (c, k)) 0)
      ⊢ (|={Set.univ}=> bigSep Finset.univ fun k => iprop(∃ κ : ℕ, cellInv ER (Rd m ρ) κ (kcell (c, k))) : sProp 𝕄) from by
        rw [← bigSep_sep']
        exact (bigSep_mono fun k _ => (Rounds.body_intro ER (Rd m ρ) (kcell (c, k))).trans inv_alloc).trans (bigSep_fupd _ _)) $$ [Hv Hst] with Hinv
  · isplitl [Hv] <;> iassumption
  imodintro
  isplitl [Hinv]; · iexact Hinv
  isplitl [Hat]; · iexact Hat
  iexact Htok

/-- The barrier tokens dealt to the neighbours that signal. -/
theorem bar_around (a : Ax) : (bigSep Finset.univ fun c : Dev nD => (dutyTok ER (barCell c) 0 a : sProp 𝕄))
    = bigSep Finset.univ fun c : Dev nD => dutyTok ER (barCell (peer a c)) 0 a :=
  bigSep_univ_equiv (peerE a) (fun c : Dev nD => (dutyTok ER (barCell c) 0 a : sProp 𝕄))

/-- A device and a tile to the device that sends it that tile. -/
def senderE : Dev nD × Slot ≃ Dev nD × Slot :=
  ⟨fun x => (peer (ax x.2) x.1, x.2), fun x => (peer (ax x.2) x.1, x.2), fun x => by simp only [peer_peer], fun x => by simp only [peer_peer]⟩

/-- The receive tokens dealt to the neighbours that send. -/
theorem recv_around : (bigSep Finset.univ fun c : Dev nD => bigSep Finset.univ fun r : Slot => (dutyTok ER (recvCell c r) 0 Ax.x : sProp 𝕄))
    = bigSep Finset.univ fun c : Dev nD => bigSep Finset.univ fun r : Slot => dutyTok ER (recvCell (peer (ax r) c) r) 0 Ax.x := by
  rw [← bigSep_univ_prod (fun x : Dev nD × Slot => (dutyTok ER (recvCell x.1 x.2) 0 Ax.x : sProp 𝕄)),
    ← bigSep_univ_prod (fun x : Dev nD × Slot => (dutyTok ER (recvCell (peer (ax x.2) x.1) x.2) 0 Ax.x : sProp 𝕄)),
    bigSep_univ_equiv senderE (fun x : Dev nD × Slot => (dutyTok ER (recvCell x.1 x.2) 0 Ax.x : sProp 𝕄))]
  rfl

/-- All tokens dealt to the devices that raise the semaphores. -/
theorem toks_around : (bigSep Finset.univ fun c : Dev nD => (toks (F := F) c : sProp 𝕄))
    ⊢ bigSep Finset.univ fun c : Dev nD => iprop(btoks (F := F) c ∗ bigSep Finset.univ (stoks (F := F) c)) := by
  unfold toks btoks stoks
  simp only [bigSep_sep', bigSep_Ax]
  rw [bar_around, bar_around, bar_around]
  simp only [own_sum (fun g => (dutyTok ER g 0 Ax.x : sProp 𝕄)), bigSep_sep']
  rw [recv_around]
  iintro ⟨⟨H1, H2, H3⟩, H4, H5⟩
  isplitl [H1 H2 H3]
  · isplitl [H1]; · iexact H1
    isplitl [H2] <;> iassumption
  isplitl [H5]; · iexact H5
  iexact H4

/-- What may be read any number of times may be read by every member. -/
theorem bigSep_with_persistent {I : Type} [DecidableEq I] {S : Finset I} {R : sProp 𝕄} [BI.Persistent R] {Φ Ψ : I → sProp 𝕄}
    (h : ∀ i ∈ S, iprop(R ∗ Φ i) ⊢ Ψ i) : iprop(R ∗ bigSep S Φ) ⊢ bigSep S Ψ :=
  (sep_mono_left (BI.bigSep_of_persistent S R)).trans (by rw [← bigSep_sep']; exact bigSep_mono h)

/-- The records and a device's own part are its ghost state. -/
theorem ghost_intro (K : Dev nD × CK → ℕ) (c : Dev nD) : iprop(records m ρ K ∗ linear (F := F) c) ⊢ ghost m ρ c := by
  unfold ghost; iintro H; iexists K; iexact H

/-- What a device's own part is made of. -/
theorem linear_intro (c : Dev nD) :
    iprop((bigSep Finset.univ fun k : CK => (atPos ER (kcell (c, k)) 0 ∅ 0 : sProp 𝕄)) ∗ btoks (F := F) c ∗ bigSep Finset.univ (stoks (F := F) c)) ⊢ linear (F := F) c := by
  rw [cells_sum (fun g => (atPos ER g 0 ∅ 0 : sProp 𝕄)) c]
  unfold linear
  iintro ⟨⟨H1, H2, H3⟩, H4⟩
  isplitl [H1]; · iexact H1
  isplitl [H2]; · iexact H2
  isplitl [H3]; · iexact H3
  iexact H4

/-- The invariants of all devices become everybody's records, and each device gets its own part. -/
theorem regroup :
    (bigSep Finset.univ fun c : Dev nD => iprop((bigSep Finset.univ fun k => iprop(∃ κ : ℕ, cellInv ER (Rd m ρ) κ (kcell (c, k))))
          ∗ (bigSep Finset.univ fun k => iprop(atPos ER (kcell (c, k)) 0 ∅ 0 ∗ reached ER (kcell (c, k)) 0)) ∗ toks (F := F) c) : sProp 𝕄)
      ⊢ bigSep Finset.univ (ghost m ρ) := by
  rw [bigSep_sep', bigSep_sep', ← bigSep_univ_prod (fun ck : Dev nD × CK => iprop(∃ κ : ℕ, cellInv ER (Rd m ρ) κ (kcell ck))),
    bigSep_congr (s := Finset.univ) (fun (c : Dev nD) _ => bigSep_sep' Finset.univ (fun k : CK => (atPos ER (kcell (c, k)) 0 ∅ 0 : sProp 𝕄)) (fun k => reached ER (kcell (c, k)) 0)),
    bigSep_sep', ← bigSep_univ_prod (fun ck : Dev nD × CK => (reached ER (kcell ck) 0 : sProp 𝕄))]
  iintro ⟨HI, ⟨Hat, #HR⟩, Htok⟩
  ihave HK := (BI.bigSep_exists_pi Finset.univ (fun (ck : Dev nD × CK) (κ : ℕ) => (cellInv ER (Rd m ρ) κ (kcell ck) : sProp 𝕄))) $$ HI
  icases HK with ⟨%K, #HI⟩
  ihave Htk := (toks_around (F := F)) $$ Htok
  iapply (bigSep_with_persistent (R := records m ρ K) fun c _ => ghost_intro m ρ K c)
  isplitr
  · unfold records; isplitl; · iexact HI
    iexact HR
  · have h := (Entails.of_eq (bigSep_sep' Finset.univ (fun c : Dev nD => bigSep Finset.univ fun k : CK => (atPos ER (kcell (c, k)) 0 ∅ 0 : sProp 𝕄))
        (fun c => iprop(btoks (F := F) c ∗ bigSep Finset.univ (stoks (F := F) c)))).symm).trans (bigSep_mono fun c _ => linear_intro (F := F) c)
    iapply h
    isplitl [Hat]; · iexact Hat
    iexact Htk

/-- At the launch, all semaphores go under their invariants and each device gets its ghost state. -/
theorem glob : (bigSep Finset.univ fun c => iprop(Pipeline.ownSems0 (Ix := Unit) (Name := ℕ) (U := UU) (Lvl := ℕ) (Val := Elt F) (τ := τ) osem c ∗ unscopedSems0 c ∗ G m ρ c) : sProp 𝕄)
    ⊢ |={Set.univ}=> bigSep Finset.univ (ghost m ρ) :=
  ((bigSep_mono fun c _ => core_alloc m ρ c).trans (bigSep_fupd _ _)).trans (BI.fupd_mono (regroup m ρ))

/-! ## The launch credit -/

/-- What device `c`'s tiles of `l` are waited for by. -/
def Tsum (c : Dev nD) (l : List Slot) : CellTallies nD τ sig Unit := (l.map fun r => tallyAt (recvCell c r) () N).sum

/-- Waiting for one tile more. -/
theorem Tsum_cons (c : Dev nD) (r : Slot) (l : List Slot) : Tsum c (r :: l) = tallyAt (recvCell c r) () N + Tsum c l := by
  unfold Tsum; rw [List.map_cons, List.sum_cons]

/-- The tiles the devices owe are the tiles the devices wait for. -/
theorem sum_Osum (l : List Slot) : (∑ d, Osum d l) = ∑ d, Tsum d l := by
  induction l with
  | nil => rfl
  | cons r l ih =>
    rw [Finset.sum_congr rfl fun d _ => Osum_cons d r l, Finset.sum_congr rfl fun d _ => Tsum_cons d r l, Finset.sum_add_distrib,
      Finset.sum_add_distrib, ih, add_comm]
    congr 1
    exact Equiv.sum_comp (peerE (ax r)) fun d => tallyAt (recvCell d r) () N

/-- A device waits for no tile on another device's semaphore. -/
theorem Tsum_off (c : Dev nD) (l : List Slot) (g : GSem nD τ sig) (h : g.1 ≠ (c : Thread nD τ)) : Tsum c l g = 0 := by
  induction l with
  | nil => rfl
  | cons r l ih => rw [Tsum_cons, Pi.add_apply, ih, tallyAt_ne_cell (fun e => h (congrArg Prod.fst e)), add_zero]

/-- The credit for the tiles of a list, tile by tile. -/
theorem cred_Tsum (c : Dev nD) (l : List Slot) : (cred (Tsum c l) : sProp 𝕄) = bigSepL l fun r => cred (tallyAt (recvCell c r) () N) := by
  induction l with
  | nil => exact cred_zero
  | cons r l ih => rw [Tsum_cons, bigSepL_cons, ← ih]; exact BI.Entails.antisymm (cred_add _ _).1 (cred_add _ _).2

/-- What device `c` waits for in all. -/
def T₀ (c : Dev nD) : CellTallies nD τ sig Unit := Tsum c sends + tallyAt (barCell c) () 3

/-- All that the devices owe is all that the devices wait for. -/
theorem sum_O₀ : (∑ d, O₀ d) = ∑ d, T₀ d := by
  unfold O₀ T₀
  rw [Finset.sum_add_distrib, Finset.sum_add_distrib, Finset.sum_add_distrib, Finset.sum_add_distrib, sum_Osum, add_assoc, add_assoc]
  congr 1
  have h (a : Ax) : (∑ d : Dev nD, (tallyAt (barCell (peer a d)) () 1 : CellTallies nD τ sig Unit)) = ∑ d : Dev nD, tallyAt (barCell d) () 1 :=
    Equiv.sum_comp (peerE a) fun d => (tallyAt (barCell d) () 1 : CellTallies nD τ sig Unit)
  rw [h, h, h, ← Finset.sum_add_distrib, ← Finset.sum_add_distrib]
  refine Finset.sum_congr rfl fun d _ => ?_
  rw [tallyAt_add, tallyAt_add]

/-- A device waits only on its own semaphores. -/
theorem T₀_at (c : Dev nD) (g : GSem nD τ sig) (h : T₀ c g ≠ 0) : g.1 = (c : Thread nD τ) := by
  by_contra hg
  refine h ?_
  unfold T₀
  rw [Pi.add_apply, Tsum_off c _ g hg, tallyAt_ne_cell (fun e => hg (congrArg Prod.fst e)), add_zero]

/-- The launch gives each device the credit to wait for what it waits for. -/
theorem creds (c : Dev nD) : (Pipeline.launchCred O₀ c : sProp 𝕄) ⊢ waitsFor (F := F) c := by
  rw [Pipeline.launchCred_of_sum O₀ T₀ sum_O₀ T₀_at c]
  unfold T₀ waitsFor
  rw [bigSep_univ_eq_bigSepL sends (by decide) (by decide) (fun r => (cred (tallyAt (recvCell c r) () N) : sProp 𝕄)), ← cred_Tsum]
  refine (show (cred (Tsum c sends + tallyAt (barCell c) () 3) : sProp 𝕄) ⊢ _ from (cred_add _ _).1).trans sep_comm

/-! ## The theorem's side conditions -/

/-- What the launch gives a device is what it enters the kernel with. -/
theorem start_intro (c : Dev nD) :
    iprop(Pipeline.unscopedRestP Pipeline.Prefetch.none cfg0.spec c (fun b => m ((c : Thread nD τ).loc b)) ∗ levAts L lv
        ∗ Pipeline.launchCred O₀ c ∗ prngReg c (ρ c) ∗ ghost m ρ c)
      ⊢ |={Set.univ}=> iprop(start m ρ c ∗ emp) := by
  iintro ⟨-, Hlev, Hcr, -, HG⟩
  ihave Hc := (creds (F := F) c) $$ Hcr
  imodintro
  unfold start
  isplitl
  · isplitl [HG]; · iexact HG
    isplitl [Hc]; · iexact Hc
    iexact Hlev
  · iempintro

/-- With its buffers that is what it holds before the body. -/
theorem phi0_intro (c : Dev nD) :
    iprop(start m ρ c ∗ Pipeline.prefHeld Pipeline.Prefetch.none c (fun _ => fullShare.right) (fun k => k.elim0) ∗ Pipeline.scopedRest cfg0.spec c)
      ⊢ (dats m ρ 0 c).Φ 0 := by
  rw [show (dats m ρ 0 c).Φ 0 = Φ₀ m ρ c from rfl, scopedRest0_eq]
  unfold Φ₀ bufs
  iintro ⟨Hs, -, Hr⟩
  isplitl [Hs] <;> iassumption

/-- What it holds after the body is its semaphores at zero and its buffers. -/
theorem phi1_exit (c : Dev nD) :
    (dats m ρ 0 c).Φ (Fin.last cfg0.N) ⊢ iprop(unscopedSems0 c ∗ Pipeline.ownSems0 osem c ∗ Pipeline.scopedRest cfg0.spec c) := by
  rw [show (dats m ρ 0 c).Φ (Fin.last cfg0.N) = Φ₁ c from rfl, scopedRest0_eq, ownSems0_eq, unscopedSems0_eq]
  unfold Φ₁ closed bufs
  iintro ⟨⟨HB, HS⟩, Hr⟩
  isplitl [HB]; · iexact HB
  isplitl [HS] <;> iassumption

/-- The waits of the staging copies are allowed. -/
theorem waits (c : Dev nD) : (levAts L lv : sProp 𝕄) ⊢ Pipeline.cellsWaits cfgs (dats m ρ) () 0 c :=
  Pipeline.cellsWaits_intro cfgs (dats m ρ) () 0 c fun w s t =>
    mayWait_stage c _ (by fin_cases w <;> fin_cases s <;> decide) _ (by
      rcases t with ⟨_ | _, ht⟩
      · exact Or.inl rfl
      · exact Or.inr rfl)

/-! ## The run -/

/-- What an array holds at the end. -/
def finalA (c : Dev nD) (w : Fin cfg0.W) : Buf (Elt F) ((cfg0.win w).arr.view.loc (c : Thread nD τ)) := (dats m ρ 0 c).arrAt w cfg0.N

/-- Every array of every device ends at `finalA`. -/
def QC : PUnit × MemSt nD τ sig (Elt F) → Prop := fun r =>
  ∀ c : Dev nD, ∀ w : Fin cfg0.W, r.2.mem ((cfg0.win w).arr.view.loc (c : Thread nD τ)) = finalA m ρ c w

set_option maxRecDepth 100000 in
/-- From any memory with zero counters, every weakly fair execution of the program on the mesh of eight devices
    terminates, each device's arrays at `finalA` and every counter at zero. -/
theorem run_main : θ_run defs (onTc (τ := τ) (main (F := F))) (s₀ m ρ) (fun r => QC m ρ r ∧ r.2.sem = fun _ => 0) :=
  Pipeline.θ_run_region_owing_glob_pf (fun p => (cfgs p).toPCfg) (fun p => (cfgs p).toPCfg_adm) (dats m ρ) () cellOf_inj (0 : Fin 1)
    winFacts0.to₀ ownSemFacts (Pipeline.PreFacts.none _) EP defs₀ 𝒱₀ m ρ main
    (hmain := fun _ => rfl)
    (hbody := body_obligation m ρ) (hne := block_pos0) (harr := arr_whole0) (hstage := stage_whole0) (hshare := share_eq m ρ)
    (hdistinct := winFacts0.arr_inj)
    (O₀ := O₀) (howed₀ := fun _ => rfl) (howedN := fun _ => rfl)
    (L := L) (lv := lv) (hL := L_of_ne) (hwaits := waits m ρ)
    (G := G m ρ) (G' := ghost m ρ) (u₀ := u₀)
    (hu₀ := by
      unfold u₀
      iintro Hu
      ihave H := (ownU_pair _ _) $$ Hu
      icases H with ⟨HP, HX⟩
      imod (fund_all m ρ) $$ HX with HG
      imodintro
      isplitl [HP] <;> iassumption)
    (hglob := glob m ρ)
    (hA := fun _ _ => rfl) (hpf := fun _ k => k.elim0)
    (X := start m ρ) (Y := fun c => unscopedSems0 c) (Z := fun _ => iprop(emp))
    (hX := start_intro m ρ) (hin := phi0_intro m ρ) (hout := phi1_exit m ρ)
    (QY := fun c s => ∀ sm : SemLoc sig, sm.isScoped .tc = false → s.sem ((c.tc : Thread nD τ), sm) = 0)
    (hY := fun c s' => by
      iintro ⟨Hu, -, HSI⟩
      iapply (Pipeline.unscopedSems0_read (X := unscopedSems0 c) (c := c) fupd_intro s')
      isplitl [Hu] <;> iassumption)
    (hQ := fun _ h hs => ⟨fun c w => (h c).1 w, sem_eq_zero hs fun c => (h c).2.2⟩)

/-- The array of x after the run holds what it held. -/
theorem finalA_x (c : Dev nD) : finalA m ρ c (0 : Fin 3) = (s₀ m ρ).mem (win0_0.arr.view.loc (c : Thread nD τ)) :=
  (dats (F := F) m ρ 0 c).arrAt_in (0 : Fin 3) rfl _
/-- The array of W after the run holds what it held. -/
theorem finalA_w (c : Dev nD) : finalA m ρ c (1 : Fin 3) = (s₀ m ρ).mem (win0_1.arr.view.loc (c : Thread nD τ)) :=
  (dats (F := F) m ρ 0 c).arrAt_in (1 : Fin 3) rfl _

end Cert.KernelIdeal.Softmax
-- ==== Proof.RefValue.lean ====
/- The value of the reference, element by element, and the softmax's identity over finite logits. -/
module

public import proofs.«01_k».proof.Proof.Gen.ReferenceIdeal.Run
public import Idealize.ShloMosaic.Lib.Pointwise
public import Idealize.ShloMosaic.Lib.IdealHost

@[expose] public section

noncomputable section

namespace Cert.Softmax

open Idealize.ShloMosaic Idealize.SL.Sem
open Cert.ReferenceIdeal Cert.ReferenceIdeal.Gen

/-! ## The identity -/

/-- The maximum of finitely many real numbers, at least one, is a real number. -/
theorem fold_max_real {n : ℕ} (hn : 0 < n) (l : Fin n → ℝ) :
    ∃ M : ℝ, (Finset.univ : Finset (Fin n)).fold max (⊥ : EReal) (fun k => (l k : EReal)) = (M : EReal) := by
  obtain ⟨k, -, hk⟩ := Finset.exists_max_image (Finset.univ : Finset (Fin n)) l ⟨⟨0, hn⟩, Finset.mem_univ _⟩
  refine ⟨l k, le_antisymm (Finset.fold_max_le _ |>.mpr ⟨bot_le, fun j hj => EReal.coe_le_coe_iff.mpr (hk j hj)⟩) ?_⟩
  exact (Finset.le_fold_max _).mpr (.inr ⟨k, Finset.mem_univ _, le_rfl⟩)

/-- A sum of real numbers is the same number among the extended reals. -/
theorem coe_sum {ι : Type} (s : Finset ι) (f : ι → ℝ) : (∑ k ∈ s, (f k : EReal)) = ((∑ k ∈ s, f k : ℝ) : EReal) := by
  classical
  induction s using Finset.induction_on with
  | empty => simp
  | insert a s ha ih => rw [Finset.sum_insert ha, Finset.sum_insert ha, ih, EReal.coe_add]

/-- Over finite logits, the exponential times the reciprocal of the exponentials' sum is the quotient of the
    exponentials taken after the row's maximum is subtracted. -/
theorem softmax_real {n : ℕ} (hn : 0 < n) (l : Fin n → ℝ) (j : Fin n) :
    Ideal.exp (l j : EReal) * Ideal.div 1 (∑ k, Ideal.exp (l k : EReal))
      = Ideal.div (Ideal.exp ((l j : EReal) - (Finset.univ : Finset (Fin n)).fold max (⊥ : EReal) (fun k => (l k : EReal))))
          (∑ k, Ideal.exp ((l k : EReal) - (Finset.univ : Finset (Fin n)).fold max (⊥ : EReal) (fun k => (l k : EReal)))) := by
  obtain ⟨M, hM⟩ := fold_max_real hn l
  rw [hM]
  have e1 : ∀ k, Ideal.exp (l k : EReal) = ((Real.exp (l k) : ℝ) : EReal) := fun _ => rfl
  have e2 : ∀ k, Ideal.exp ((l k : EReal) - (M : EReal)) = ((Real.exp (l k - M) : ℝ) : EReal) := fun k => by
    rw [← EReal.coe_sub]; rfl
  have hs : (∑ k, Real.exp (l k - M)) = (∑ k, Real.exp (l k)) * Real.exp (-M) := by
    rw [Finset.sum_mul]; exact Finset.sum_congr rfl fun k _ => by rw [sub_eq_add_neg, Real.exp_add]
  have hp : 0 < ∑ k, Real.exp (l k) := Finset.sum_pos (fun k _ => Real.exp_pos _) ⟨⟨0, hn⟩, Finset.mem_univ _⟩
  have hq : 0 < ∑ k, Real.exp (l k - M) := Finset.sum_pos (fun k _ => Real.exp_pos _) ⟨⟨0, hn⟩, Finset.mem_univ _⟩
  simp only [e1, e2, coe_sum]
  rw [Ideal.div_coe hp.ne', Ideal.div_coe hq.ne', one_mul, ← EReal.coe_mul, ← EReal.coe_mul]
  refine congrArg _ ?_
  rw [hs, sub_eq_add_neg, Real.exp_add]
  have h3 := Real.exp_pos (-M)
  field_simp

/-! ## The logits -/

/-- A logit: the product of a row of `X` and a column of `W`. -/
def logit (X : FVec Ideal S256x512 .f32) (W : FVec Ideal S512x8192 .f32) (i : Fin 256) (j : Fin 8192) : EReal :=
  ∑ q : Fin 512, X (ix2 i q) * W (ix2 q j)

/-- Over finite `X` and `W` every logit is a real number. -/
theorem logit_real {X : FVec Ideal S256x512 .f32} {W : FVec Ideal S512x8192 .f32}
    (hX : ∀ i q, ∃ r : ℝ, X (ix2 i q) = (r : EReal)) (hW : ∀ q j, ∃ r : ℝ, W (ix2 q j) = (r : EReal)) (i : Fin 256) :
    ∃ l : Fin 8192 → ℝ, logit X W i = fun j => (l j : EReal) := by
  choose x hx using hX
  choose w hw using hW
  refine ⟨fun j => ∑ q, x i q * w q j, funext fun j => ?_⟩
  unfold logit
  simp only [hx, hw, ← EReal.coe_mul, coe_sum]

/-- The reference's result as one term of its arguments. -/
def refOut (X : FVec Ideal S256x512 .f32) (W : FVec Ideal S512x8192 .f32) : FVec Ideal S256x8192 .f32 :=
  let D := Host.dotGeneral dot_S256x512_S512x8192_S256x8192_1_0_0_1_n_n none X W
  let E := Host.exp (subf D (broadcastInDim S256x8192 ![0, 1] bcast_S256x1_S256x8192_0_1 (broadcastInDim S256x1 ![0] bcast_S256_S256x1_0
    (Host.reduce FloatOps.maximumf D (constant S_ .f32 0xFF800000#32) reducesTo_S256x8192_S256_d1 h_S_))))
  Host.divf E (broadcastInDim S256x8192 ![0, 1] bcast_S256x1_S256x8192_0_1 (broadcastInDim S256x1 ![0] bcast_S256_S256x1_0
    (Host.reduceAdd E (constant S_ .f32 0x00000000#32) reducesTo_S256x8192_S256_d1 h_S_)))

/-- The pattern the row maximum starts from is minus infinity. -/
theorem bot_f32 : (FloatOps.ofBits .f32 0xFF800000#32 : Ideal .f32) = (⊥ : EReal) := by
  show Ideal.ofBits .f32 0xFF800000#32 = ⊥
  simp [Ideal.ofBits, Ideal.ieee]

/-- The reference's result at an element. -/
theorem refOut_apply (X : FVec Ideal S256x512 .f32) (W : FVec Ideal S512x8192 .f32) (i : Fin 256) (j : Fin 8192) :
    refOut X W (ix2 i j) = Ideal.div
      (Ideal.exp (logit X W i j - (Finset.univ : Finset (Fin 8192)).fold max (⊥ : EReal) (logit X W i)))
      (∑ k, Ideal.exp (logit X W i k - (Finset.univ : Finset (Fin 8192)).fold max (⊥ : EReal) (logit X W i))) := by
  have hb : Ideal.ofBits .f32 0xFF800000#32 = ⊥ := bot_f32
  pointwise [refOut]
  rw [hb]
  rfl

end Cert.Softmax
-- ==== Proof.KernelIdealValue.lean ====
/- The value of the kernel of version v06 in exact arithmetic: every device ends with the whole softmax. -/
module

public import proofs.«01_k».proof.Proof.KernelIdealLaunch
public import proofs.«01_k».proof.Proof.RefValue
public import Idealize.ShloMosaic.Lib.Layout

@[expose] public section

noncomputable section

namespace Cert.KernelIdeal.Softmax

open Idealize.ShloMosaic Idealize.ShloMosaic.TcCoe
open Idealize.SL Idealize.SL.Sem
open Cert.KernelIdeal Cert.KernelIdeal.Gen
open Cert.Softmax (logit)

variable (m : (ℓ : Loc nD τ sig) → Buf (Elt Ideal) ℓ) (ρ : Dev nD → PrngReg)

/-! ## The final array -/

/-- The result array ends with what the body leaves in its staging buffer. -/
theorem finalA_o (c : Dev nD) :
    (win0_2.blk (0 : Fin 1)).view.read (Elt Ideal) (finalA m ρ c (2 : Fin 3)) = outAt m ρ c := by
  unfold finalA
  rw [show cfg0.N = ((0 : Fin 1) : Fin cfg0.N).val + 1 from rfl, (dats m ρ 0 c).arrAt_succ (2 : Fin 3) (0 : Fin 1)]
  rw [show (cfg0.win (2 : Fin 3)).flush (0 : Fin 1) = true from by decide, if_pos rfl]
  exact View.read_write_univ _ _

/-- The staging buffer of x holds the array of x. -/
theorem xstg_eq (c : Dev nD) : xstg m ρ c = m ((c : Thread nD τ).loc main_arg0) :=
  Memref.read_access_unit_zero (Elt Ideal) main_arg0 (by funext a; fin_cases a <;> rfl) _ _
/-- The staging buffer of W holds the array of W. -/
theorem wstg_eq (c : Dev nD) : wstg m ρ c = m ((c : Thread nD τ).loc main_arg1) :=
  Memref.read_access_unit_zero (Elt Ideal) main_arg1 (by funext a; fin_cases a <;> rfl) _ _
/-- The array of the result ends with what the body leaves. -/
theorem final_v1 (c : Dev nD) : finalA m ρ c (2 : Fin 3) = outAt m ρ c :=
  (Memref.read_access_unit_zero (Elt Ideal) main_v1 (by funext a; fin_cases a <;> rfl) _ _).symm.trans (finalA_o m ρ c)

/-! ## A column and its tile -/

/-- The column of the result that chunk `k` of part `p` of half `h` has at `j`. -/
def col (h : Fin 2) (p : Fin 4) (k : Fin 8) (j : Fin 128) : Fin 8192 :=
  ⟨4096 * h.val + 1024 * p.val + 128 * k.val + j.val, by omega⟩

/-- Every column lies in one tile, at one place of it. -/
def colE : ((Fin 2 × Fin 4 × Fin 8) × Fin 128) ≃ Fin 8192 where
  toFun t := col t.1.1 t.1.2.1 t.1.2.2 t.2
  invFun c := ((⟨c.val / 4096, by omega⟩, ⟨c.val / 1024 % 4, by omega⟩, ⟨c.val / 128 % 8, by omega⟩), ⟨c.val % 128, by omega⟩)
  left_inv t := by
    obtain ⟨⟨h, p, k⟩, j⟩ := t
    refine Prod.ext (Prod.ext (Fin.ext ?_) (Prod.ext (Fin.ext ?_) (Fin.ext ?_))) (Fin.ext ?_) <;> simp only [col] <;> omega
  right_inv c := Fin.ext (by simp only [col]; omega)

/-- An element of the exponentials of a product. -/
theorem expPay_mmPay (x : Vec Ideal S256x512 .f32) (w : Vec Ideal S512x128 .f32) (i : Fin 256) (j : Fin 128) :
    expPay (mmPay x w) (ix2 i j) = Ideal.exp (∑ q : Fin 512, x (ix2 i q) * w (ix2 q j)) := by
  pointwise [expPay, mmPay]

/-- The row sum of row `i` with one more tile. -/
theorem sumPay_apply (s : FVec Ideal S256x1 .f32) (l : Vec Ideal S1x1x256x128 .f32) (i : Fin 256) :
    sumPay s l (ix2 i 0) = s (ix2 i 0) + ∑ j : Fin 128, expPay l (ix2 i j) := by
  pointwise [sumPay]

/-- An element of the result after the last product: the exponential times the reciprocal of its row's sum. -/
theorem pay144_apply (s : FVec Ideal S256x1 .f32) (o : Vec Ideal S256x8192 .f32) (i : Fin 256) (j : Fin 8192) :
    k0_pay144 s o (ix2 i j) = o (ix2 i j) * Ideal.div 1 (s (ix2 i 0)) := by
  pointwise [k0_pay144]

/-! ## The tiles -/

variable (X : FVec Ideal S256x512 .f32) (W : FVec Ideal Cert.ReferenceIdeal.S512x8192 .f32)

/-- What the devices start from: `X` everywhere, and of `W` the half of the columns each one computes. -/
def Starts : Prop :=
  (∀ c : Dev nD, m ((c : Thread nD τ).loc main_arg0) = X)
    ∧ ∀ (c : Dev nD) (q : Fin 512) (p : Fin 4) (k : Fin 8) (j : Fin 128),
      (m ((c : Thread nD τ).loc main_arg1) : FVec Ideal S512x4096 .f32) (ix2 q ⟨1024 * p.val + 128 * k.val + j.val, by omega⟩)
        = W (ix2 q (col (own c) p k j))

variable {m X W}

/-- A computed tile holds the logits of its columns. -/
theorem tile_apply (hm : Starts m X W) (c : Dev nD) (p : Fin 4) (k : Fin 8) (i : Fin 256) (j : Fin 128) :
    expPay (tileV m ρ c p k) (ix2 i j) = Ideal.exp (logit X W i (col (own c) p k j)) := by
  unfold tileV
  rw [expPay_mmPay, xstg_eq, hm.1 c, wstg_eq]
  refine congrArg Ideal.exp (Finset.sum_congr rfl fun q _ => congrArg (X (ix2 i q) * ·) ?_)
  rw [← hm.2 c q p k j]
  show (m ((c : Thread nD τ).loc main_arg1) : FVec Ideal S512x4096 .f32) _ = _
  refine congrArg _ (funext fun a => Fin.ext ?_)
  fin_cases a
  · show 0 + 1 * q.val = q.val; omega
  · show (1024 * p.val + 128 * k.val) + 1 * j.val = 1024 * p.val + 128 * k.val + j.val; omega

/-- A received tile was computed by a device of the other half. -/
theorem own_orig (d : Dev nD) (r : Slot) : own (orig d r) = other d := by
  obtain ⟨q, k⟩ := r; revert d q k; decide +kernel

/-- Every tile, computed or received, holds the logits of its columns. -/
theorem theT_apply (hm : Starts m X W) (d : Dev nD) (h : Fin 2) (p : Fin 4) (k : Fin 8) (i : Fin 256) (j : Fin 128) :
    expPay (theT m ρ d h p k) (ix2 i j) = Ideal.exp (logit X W i (col h p k j)) := by
  unfold theT
  by_cases hd : h = own d
  · rw [if_pos hd, tile_apply ρ hm, hd]
  · have ho : h = other d := by revert h d; decide
    rw [if_neg hd]
    unfold rtileV
    rw [tile_apply ρ hm, own_orig, ho]
    show Ideal.exp (logit X W i (col _ (absP d (absP d p)) k j)) = _
    rw [show absP d (absP d p) = p from xorP_self _ _]

/-- The exponentials of all logits. -/
theorem outE_apply (hm : Starts m X W) (d : Dev nD) (i : Fin 256) (j : Fin 8192) :
    outE m ρ d (ix2 i j) = Ideal.exp (logit X W i j) := by
  have e : locI (ix2 i j) = ix2 i ⟨j.val % 128, by omega⟩ := by
    funext a; refine Fin.ext ?_
    fin_cases a
    · show i.val % 256 = i.val; omega
    · rfl
  unfold outE
  rw [e, theT_apply ρ hm]
  exact congrArg (fun c => Ideal.exp (logit X W i c)) (colE.right_inv j)

/-! ## The row sums -/

/-- The half, the part and the chunk of a use. -/
def place (d : Dev nD) (b : Bool × Slot) : Fin 2 × Fin 4 × Fin 8 := (if b.1 then other d else own d, absP d b.2.1, b.2.2)

/-- Every tile is used once. -/
theorem places_nodup (d : Dev nD) : ((uses d).map (place d)).Nodup := by revert d; decide +kernel
/-- All tiles are used. -/
theorem places_all (d : Dev nD) : ((uses d).map (place d)).toFinset = Finset.univ := by
  refine Finset.eq_univ_of_forall fun ⟨h, p, k⟩ => List.mem_toFinset.mpr ?_
  obtain ⟨b, hb, h1, h2, h3⟩ := uses_all d h p k
  exact List.mem_map.mpr ⟨b, hb, Prod.ext h1 (Prod.ext h2 h3)⟩

/-- The row sum of row `i` after some tiles is the sum of the tiles' rows. -/
theorem sums_apply (l : List (Vec Ideal S1x1x256x128 .f32)) (s : FVec Ideal S256x1 .f32) (i : Fin 256) :
    l.foldl sumPay s (ix2 i 0) = s (ix2 i 0) + (l.map fun t => ∑ j : Fin 128, expPay t (ix2 i j)).sum := by
  induction l generalizing s with
  | nil => simp
  | cons t l ih => rw [List.foldl_cons, ih, sumPay_apply, List.map_cons, List.sum_cons, add_assoc]

/-- The row sums are the sums over all columns. -/
theorem sumE_apply (hm : Starts m X W) (d : Dev nD) (i : Fin 256) :
    sumE m ρ d (ix2 i 0) = ∑ j : Fin 8192, Ideal.exp (logit X W i j) := by
  unfold sumE
  rw [sums_apply, List.map_map]
  rw [show (zeroPay : FVec Ideal S256x1 .f32) (ix2 i 0) = 0 from Ideal.ofBits_zero_f32, zero_add]
  rw [show (fun t => ∑ j : Fin 128, expPay t (ix2 i j)) ∘ useT m ρ d
      = (fun t : Fin 2 × Fin 4 × Fin 8 => ∑ j : Fin 128, Ideal.exp (logit X W i (col t.1 t.2.1 t.2.2 j))) ∘ place d from
    funext fun b => Finset.sum_congr rfl fun j _ => by rw [useT_eq]; exact theT_apply ρ hm d _ _ _ i j]
  rw [← List.map_map, ← List.sum_toFinset _ (places_nodup d), places_all]
  refine (Fintype.sum_prod_type' fun (t : Fin 2 × Fin 4 × Fin 8) (j : Fin 128) => Ideal.exp (logit X W i (col t.1 t.2.1 t.2.2 j))).symm.trans ?_
  exact Fintype.sum_equiv colE _ _ fun _ => rfl

/-- The kernel's result at an element. -/
theorem outAt_apply (hm : Starts m X W) (d : Dev nD) (i : Fin 256) (j : Fin 8192) :
    outAt m ρ d (ix2 i j) = Ideal.exp (logit X W i j) * Ideal.div 1 (∑ k : Fin 8192, Ideal.exp (logit X W i k)) := by
  unfold outAt
  rw [pay144_apply, outE_apply ρ hm, sumE_apply ρ hm]

/-- Over finite `X` and `W` every device ends with the reference's result. -/
theorem value (hm : Starts m X W) (hX : ∀ i q, ∃ r : ℝ, X (ix2 i q) = (r : EReal))
    (hW : ∀ q j, ∃ r : ℝ, W (ix2 q j) = (r : EReal)) (d : Dev nD) : outAt m ρ d = Cert.Softmax.refOut X W := by
  funext t
  rw [eq_ix2 t]
  obtain ⟨l, hl⟩ := Cert.Softmax.logit_real hX hW (t 0)
  refine (outAt_apply ρ hm d _ _).trans (Eq.trans ?_ (Cert.Softmax.refOut_apply X W _ _).symm)
  rw [hl]
  exact Cert.Softmax.softmax_real (by decide) l (t 1)

end Cert.KernelIdeal.Softmax
-- ==== Proof.lean ====
module

public import proofs.«01_k».proof.Defs
public import proofs.«01_k».proof.Proof.KernelLaunch
public import proofs.«01_k».proof.Proof.KernelIdealValue
public import proofs.«01_k».proof.Proof.Gen.Kernel.Launch
public import proofs.«01_k».proof.Proof.Gen.Kernel.Points
public import proofs.«01_k».proof.Proof.Gen.KernelIdeal.Launch
public import proofs.«01_k».proof.Proof.Gen.KernelIdeal.Points
public import proofs.«01_k».proof.Proof.Gen.Pre_finite_KernelIdeal
public import proofs.«01_k».proof.Proof.Gen.Pre_finite_ReferenceIdeal
public import Idealize.ShloMosaic.Lib.Quiescent

@[expose] public section

noncomputable section

namespace Cert.Proof

open Idealize.ShloMosaic Idealize.ShloMosaic.TcCoe Idealize.SL.Sem

/-! ## The frames -/

/-- The kernel as printed terminates, keeps its arguments and leaves every semaphore at zero. -/
theorem frame_kernel : Cert.quiescent_Kernel := fun m ρ _ =>
  (θ_run Cert.Kernel.defs _ _).mono
    (fun _ h => ⟨fun c => ⟨(h.1 c (0 : Fin 3)).trans (Cert.Kernel.Softmax.finalA_x m ρ c), (h.1 c (1 : Fin 3)).trans (Cert.Kernel.Softmax.finalA_w m ρ c)⟩, h.2⟩)
    (Cert.Kernel.Softmax.run_main (F := Bits) m ρ)

/-- So does the kernel in exact arithmetic. -/
theorem frame_ideal : Cert.quiescent_KernelIdeal := fun m ρ _ =>
  (θ_run Cert.KernelIdeal.defs _ _).mono
    (fun _ h => ⟨fun c => ⟨(h.1 c (0 : Fin 3)).trans (Cert.KernelIdeal.Softmax.finalA_x m ρ c), (h.1 c (1 : Fin 3)).trans (Cert.KernelIdeal.Softmax.finalA_w m ρ c)⟩, h.2⟩)
    (Cert.KernelIdeal.Softmax.run_main (F := Ideal) m ρ)

/-- So does the reference, which declares no semaphore. -/
theorem frame_reference : Cert.quiescent_ReferenceIdeal := fun m ρ _ =>
  (θ_run Cert.ReferenceIdeal.defs _ _).mono
    (fun r h => ⟨fun c => (h c).2, sem_eq_zero_of_no_sems (by decide) r.2⟩)
    (Cert.ReferenceIdeal.Value.run (F := Ideal) m ρ)

/-! ## The precondition -/

/-- A number whose absolute value is below infinity is real. -/
theorem real_of_abs {x : EReal} (h : Ideal.cmp .olt (FloatOps.absf (F := Ideal) (φ := .f32) x) (FloatOps.ofBits (F := Ideal) .f32 0x7F800000#32) = 1#1) :
    ∃ r : ℝ, x = (r : EReal) := by
  have ht : (FloatOps.ofBits (F := Ideal) .f32 0x7F800000#32 : EReal) = ⊤ := by
    show Ideal.ofBits .f32 0x7F800000#32 = ⊤
    simp [Ideal.ofBits, Ideal.ieee]
  rw [ht] at h
  induction x with
  | bot => exact absurd h (by rw [Ideal.absf_def]; simp [Ideal.cmp])
  | top => exact absurd h (by rw [Ideal.absf_def]; simp [Ideal.cmp])
  | coe r => exact ⟨r, rfl⟩

section

variable {m : (ℓ : Loc Cert.KernelIdeal.nD Cert.KernelIdeal.τ Cert.KernelIdeal.sig) → Buf (Elt Ideal) ℓ}
  {X : FVec Ideal Cert.KernelIdeal.S256x512 .f32} {W : FVec Ideal Cert.ReferenceIdeal.S512x8192 .f32}

/-- Blocks of the columns over the mesh's first axis are what the kernel starts from. -/
theorem starts (hX : ∀ c : Dev Cert.KernelIdeal.nD, m ((c.tc : Thread Cert.KernelIdeal.nD Cert.KernelIdeal.τ).loc Cert.KernelIdeal.main_arg0) = X)
    (hW : ∀ c : Dev Cert.KernelIdeal.nD, m ((c.tc : Thread Cert.KernelIdeal.nD Cert.KernelIdeal.τ).loc Cert.KernelIdeal.main_arg1)
      = Layout.blockN ⟨2, ![512, 4096]⟩ ⟨2, ![512, 8192]⟩ (Layout.meshBlock [2, 2, 2] ![[], [0]] c) W) :
    Cert.KernelIdeal.Softmax.Starts m X W := by
  refine ⟨hX, fun c q p k j => ?_⟩
  rw [hW c, Layout.blockN_apply]
  have hm : ((Layout.meshBlock [2, 2, 2] ![[], [0]] c : (b : Fin 2) → Fin _) 0).val = 0
      ∧ ((Layout.meshBlock [2, 2, 2] ![[], [0]] c : (b : Fin 2) → Fin _) 1).val = c.val / 4 := by revert c; decide
  refine congrArg W (funext fun a => Fin.ext ?_)
  fin_cases a
  · refine (Layout.TilesN.idx_val _ _ _ _).trans ?_
    show ((Layout.meshBlock [2, 2, 2] ![[], [0]] c : (b : Fin 2) → Fin _) 0).val * 512 + q.val = q.val
    rw [hm.1]; omega
  · refine (Layout.TilesN.idx_val _ _ _ _).trans ?_
    show ((Layout.meshBlock [2, 2, 2] ![[], [0]] c : (b : Fin 2) → Fin _) 1).val * 4096 + (1024 * p.val + 128 * k.val + j.val)
      = 4096 * (c.val / 4) + 1024 * p.val + 128 * k.val + j.val
    rw [hm.2]; omega

/-- The precondition makes `X` and the whole of `W` real, each column of `W` being on some device. -/
theorem real_args (hpre : Cert.Pre_KernelIdeal_finite_KernelIdeal m) (hs : Cert.KernelIdeal.Softmax.Starts m X W) :
    (∀ i q, ∃ r : ℝ, X (ix2 i q) = (r : EReal)) ∧ ∀ q j, ∃ r : ℝ, W (ix2 q j) = (r : EReal) := by
  refine ⟨fun i q => ?_, fun q j => ?_⟩
  · have h := congrFun (hpre 0).1 (ix2 i q)
    rw [← hs.1 0]
    exact real_of_abs h
  · obtain ⟨t, rfl⟩ := Cert.KernelIdeal.Softmax.colE.surjective j
    obtain ⟨⟨h, p, k⟩, j⟩ := t
    obtain ⟨c, rfl⟩ : ∃ c, Cert.KernelIdeal.Softmax.own c = h := by revert h; decide
    have e := congrFun (hpre c).2 (ix2 q ⟨1024 * p.val + 128 * k.val + j.val, by omega⟩)
    show ∃ r : ℝ, W (ix2 q (Cert.KernelIdeal.Softmax.col _ p k j)) = (r : EReal)
    rw [← hs.2 c q p k j]
    exact real_of_abs e

end

/-! ## The value -/

/-- Over finite inputs the kernel in exact arithmetic leaves on every device what the reference computes. -/
theorem value : Cert.algebraic_KernelIdeal_ReferenceIdeal_pre_finite_KernelIdeal := by
  intro m ρ m' ρ' hpre hag
  have hs := starts (fun c => (hag c).1) (fun c => (hag c).2)
  have hr := real_args hpre hs
  refine ⟨Cert.Softmax.refOut (m' (((0 : Dev Cert.ReferenceIdeal.nD).tc : Thread Cert.ReferenceIdeal.nD Cert.ReferenceIdeal.τ).loc Cert.ReferenceIdeal.main_arg0))
    (m' (((0 : Dev Cert.ReferenceIdeal.nD).tc : Thread Cert.ReferenceIdeal.nD Cert.ReferenceIdeal.τ).loc Cert.ReferenceIdeal.main_arg1)), ?_, ?_⟩
  · exact (θ_run Cert.KernelIdeal.defs _ _).mono
      (fun _ h c => ⟨(h.1 c (2 : Fin 3)).trans ((Cert.KernelIdeal.Softmax.final_v1 m ρ c).trans (Cert.KernelIdeal.Softmax.value ρ hs hr.1 hr.2 c)),
        (h.1 c (0 : Fin 3)).trans (Cert.KernelIdeal.Softmax.finalA_x m ρ c), (h.1 c (1 : Fin 3)).trans (Cert.KernelIdeal.Softmax.finalA_w m ρ c)⟩)
      (Cert.KernelIdeal.Softmax.run_main (F := Ideal) m ρ)
  · exact (θ_run Cert.ReferenceIdeal.defs _ _).mono (fun _ h => h 0) (Cert.ReferenceIdeal.Value.run (F := Ideal) m' ρ')

/-- All the claims. -/
theorem claim : Cert.Claim :=
  ⟨Cert.Kernel.Gen.facts, Cert.KernelIdeal.Gen.facts, Cert.ReferenceIdeal.Gen.facts, Cert.Pre_finite_KernelIdeal.Gen.facts,
    Cert.Pre_finite_ReferenceIdeal.Gen.facts,
    frame_kernel, frame_ideal, fun m ρ _ => frame_ideal m ρ trivial, frame_reference, fun m ρ _ => frame_reference m ρ trivial,
    trivial, value⟩

end Cert.Proof

end
